-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x1024 : Shape := ⟨2, ![1024, 1024]⟩
abbrev S4x2x128x1024 : Shape := ⟨4, ![4, 2, 128, 1024]⟩
abbrev S2x3x2x128x1024 : Shape := ⟨5, ![2, 3, 2, 128, 1024]⟩
abbrev S2x3x2 : Shape := ⟨3, ![2, 3, 2]⟩
abbrev S_ : Shape := ⟨0, ![]⟩
abbrev S128x1024 : Shape := ⟨2, ![128, 1024]⟩
abbrev S1x1x128x1024 : Shape := ⟨4, ![1, 1, 128, 1024]⟩
abbrev S1x1x1 : Shape := ⟨3, ![1, 1, 1]⟩
abbrev S1x1x1x128x1024 : Shape := ⟨5, ![1, 1, 1, 128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S4x2x128x1024, .bf16⟩
  | .local _ .vmem, ⟨4, _⟩ => ⟨S4x2x128x1024, .bf16⟩
  | .local _ .vmem, ⟨5, _⟩ => ⟨S1024x1024, .bf16⟩
  | .local _ .vmem, ⟨6, _⟩ => ⟨S2x3x2x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_97 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v111 : BitVec 32 := Scalar.subi v2 c0_i32_97
  let c4_i32_98 : BitVec 32 := 4#32
  let v112 : BitVec 32 := Scalar.addi v111 c4_i32_98
  let c4_i32_99 : BitVec 32 := 4#32
  let c0_i32_100 : BitVec 32 := 0#32
  let v113 : BitVec 1 := Scalar.cmpi .eq c4_i32_99 c0_i32_100
  let c1_i32_101 : BitVec 32 := 1#32
  let v114 : BitVec 32 := Scalar.select v113 c1_i32_101 c4_i32_99
  let v115 : BitVec 32 := Scalar.remsi v112 v114
  let c0_i32_103 : BitVec 32 := 0#32
  let v117 : BitVec 1 := Scalar.cmpi .slt v115 c0_i32_103
  let c0_i32_104 : BitVec 32 := 0#32
  let v118 : BitVec 1 := Scalar.cmpi .slt v114 c0_i32_104
  let v119 : BitVec 1 := Scalar.xori v117 v118
  let c0_i32_102 : BitVec 32 := 0#32
  let v116 : BitVec 1 := Scalar.cmpi .ne v115 c0_i32_102
  let v120 : BitVec 1 := Scalar.andi v119 v116
  let v121 : BitVec 32 := Scalar.addi v115 v114
  let v122 : BitVec 32 := Scalar.select v120 v121 v115
  let c0_i32_105 : BitVec 32 := 0#32
  let c0_i32_119 : BitVec 32 := 0#32
  let c0_i32_120 : BitVec 32 := 0#32
  ![v122.toNat, 0, 0, 0]
def k0_dev3 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_115 : BitVec 32 := 1#32
  let v123 : BitVec 32 := Scalar.muli v25 c1_i32_115
  let v124 : BitVec 32 := Scalar.addi c0_i32_116 v123
  v124.toNat
def k0_off2 (d0 : Dev nD) (c0_i32_121 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v133 : BitVec 32 := Scalar.subi v2 c0_i32_121
  let c4_i32_122 : BitVec 32 := 4#32
  let v134 : BitVec 32 := Scalar.addi v133 c4_i32_122
  let c4_i32_123 : BitVec 32 := 4#32
  let c0_i32_124 : BitVec 32 := 0#32
  let v135 : BitVec 1 := Scalar.cmpi .eq c4_i32_123 c0_i32_124
  let c1_i32_125 : BitVec 32 := 1#32
  let v136 : BitVec 32 := Scalar.select v135 c1_i32_125 c4_i32_123
  let v137 : BitVec 32 := Scalar.remsi v134 v136
  let c0_i32_127 : BitVec 32 := 0#32
  let v139 : BitVec 1 := Scalar.cmpi .slt v137 c0_i32_127
  let c0_i32_128 : BitVec 32 := 0#32
  let v140 : BitVec 1 := Scalar.cmpi .slt v136 c0_i32_128
  let v141 : BitVec 1 := Scalar.xori v139 v140
  let c0_i32_126 : BitVec 32 := 0#32
  let v138 : BitVec 1 := Scalar.cmpi .ne v137 c0_i32_126
  let v142 : BitVec 1 := Scalar.andi v141 v138
  let v143 : BitVec 32 := Scalar.addi v137 v136
  let v144 : BitVec 32 := Scalar.select v142 v143 v137
  let c1_i32_129 : BitVec 32 := 1#32
  let c0_i32_143 : BitVec 32 := 0#32
  let c0_i32_144 : BitVec 32 := 0#32
  ![v144.toNat, 1, 0, 0]
def k0_dev4 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_139 : BitVec 32 := 1#32
  let v145 : BitVec 32 := Scalar.muli v25 c1_i32_139
  let v146 : BitVec 32 := Scalar.addi c0_i32_140 v145
  v146.toNat
def k0_off3 (d0 : Dev nD) (c0_i32_145 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v155 : BitVec 32 := Scalar.addi v2 c0_i32_145
  let c4_i32_146 : BitVec 32 := 4#32
  let c0_i32_147 : BitVec 32 := 0#32
  let v156 : BitVec 1 := Scalar.cmpi .eq c4_i32_146 c0_i32_147
  let c1_i32_148 : BitVec 32 := 1#32
  let v157 : BitVec 32 := Scalar.select v156 c1_i32_148 c4_i32_146
  let v158 : BitVec 32 := Scalar.remsi v155 v157
  let c0_i32_150 : BitVec 32 := 0#32
  let v160 : BitVec 1 := Scalar.cmpi .slt v158 c0_i32_150
  let c0_i32_151 : BitVec 32 := 0#32
  let v161 : BitVec 1 := Scalar.cmpi .slt v157 c0_i32_151
  let v162 : BitVec 1 := Scalar.xori v160 v161
  let c0_i32_149 : BitVec 32 := 0#32
  let v159 : BitVec 1 := Scalar.cmpi .ne v158 c0_i32_149
  let v163 : BitVec 1 := Scalar.andi v162 v159
  let v164 : BitVec 32 := Scalar.addi v158 v157
  let v165 : BitVec 32 := Scalar.select v163 v164 v158
  let c0_i32_152 : BitVec 32 := 0#32
  let c0_i32_166 : BitVec 32 := 0#32
  let c0_i32_167 : BitVec 32 := 0#32
  ![v165.toNat, 0, 0, 0]
def k0_dev5 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_162 : BitVec 32 := 1#32
  let v166 : BitVec 32 := Scalar.muli v14 c1_i32_162
  let v167 : BitVec 32 := Scalar.addi c0_i32_163 v166
  v167.toNat
def k0_off4 (d0 : Dev nD) (c0_i32_168 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v176 : BitVec 32 := Scalar.addi v2 c0_i32_168
  let c4_i32_169 : BitVec 32 := 4#32
  let c0_i32_170 : BitVec 32 := 0#32
  let v177 : BitVec 1 := Scalar.cmpi .eq c4_i32_169 c0_i32_170
  let c1_i32_171 : BitVec 32 := 1#32
  let v178 : BitVec 32 := Scalar.select v177 c1_i32_171 c4_i32_169
  let v179 : BitVec 32 := Scalar.remsi v176 v178
  let c0_i32_173 : BitVec 32 := 0#32
  let v181 : BitVec 1 := Scalar.cmpi .slt v179 c0_i32_173
  let c0_i32_174 : BitVec 32 := 0#32
  let v182 : BitVec 1 := Scalar.cmpi .slt v178 c0_i32_174
  let v183 : BitVec 1 := Scalar.xori v181 v182
  let c0_i32_172 : BitVec 32 := 0#32
  let v180 : BitVec 1 := Scalar.cmpi .ne v179 c0_i32_172
  let v184 : BitVec 1 := Scalar.andi v183 v180
  let v185 : BitVec 32 := Scalar.addi v179 v178
  let v186 : BitVec 32 := Scalar.select v184 v185 v179
  let c1_i32_175 : BitVec 32 := 1#32
  let c0_i32_189 : BitVec 32 := 0#32
  let c0_i32_190 : BitVec 32 := 0#32
  ![v186.toNat, 1, 0, 0]
def k0_dev6 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_185 : BitVec 32 := 1#32
  let v187 : BitVec 32 := Scalar.muli v14 c1_i32_185
  let v188 : BitVec 32 := Scalar.addi c0_i32_186 v187
  v188.toNat
def k0_off5 (d0 : Dev nD) (c0_i32_234 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v245 : BitVec 32 := Scalar.subi v2 c0_i32_234
  let c1_i32_235 : BitVec 32 := 1#32
  let v246 : BitVec 32 := Scalar.subi v245 c1_i32_235
  let c4_i32_236 : BitVec 32 := 4#32
  let v247 : BitVec 32 := Scalar.addi v246 c4_i32_236
  let c4_i32_237 : BitVec 32 := 4#32
  let c0_i32_238 : BitVec 32 := 0#32
  let v248 : BitVec 1 := Scalar.cmpi .eq c4_i32_237 c0_i32_238
  let c1_i32_239 : BitVec 32 := 1#32
  let v249 : BitVec 32 := Scalar.select v248 c1_i32_239 c4_i32_237
  let v250 : BitVec 32 := Scalar.remsi v247 v249
  let c0_i32_241 : BitVec 32 := 0#32
  let v252 : BitVec 1 := Scalar.cmpi .slt v250 c0_i32_241
  let c0_i32_242 : BitVec 32 := 0#32
  let v253 : BitVec 1 := Scalar.cmpi .slt v249 c0_i32_242
  let v254 : BitVec 1 := Scalar.xori v252 v253
  let c0_i32_240 : BitVec 32 := 0#32
  let v251 : BitVec 1 := Scalar.cmpi .ne v250 c0_i32_240
  let v255 : BitVec 1 := Scalar.andi v254 v251
  let v256 : BitVec 32 := Scalar.addi v250 v249
  let v257 : BitVec 32 := Scalar.select v255 v256 v250
  let v258 : Index := Scalar.indexCast v257
  let c0_243 : Index := 0#32
  let c0_244 : Index := 0#32
  let c0_245 : Index := 0#32
  ![v258.toNat, 0, 0, 0]
def k0_dev7 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_272 : BitVec 32 := 1#32
  let v280 : BitVec 32 := Scalar.muli v25 c1_i32_272
  let v281 : BitVec 32 := Scalar.addi c0_i32_273 v280
  v281.toNat
def k0_off6 (d0 : Dev nD) (c0_i32_301 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v309 : BitVec 32 := Scalar.addi v2 c0_i32_301
  let c1_i32_302 : BitVec 32 := 1#32
  let v310 : BitVec 32 := Scalar.addi v309 c1_i32_302
  let c4_i32_303 : BitVec 32 := 4#32
  let c0_i32_304 : BitVec 32 := 0#32
  let v311 : BitVec 1 := Scalar.cmpi .eq c4_i32_303 c0_i32_304
  let c1_i32_305 : BitVec 32 := 1#32
  let v312 : BitVec 32 := Scalar.select v311 c1_i32_305 c4_i32_303
  let v313 : BitVec 32 := Scalar.remsi v310 v312
  let c0_i32_307 : BitVec 32 := 0#32
  let v315 : BitVec 1 := Scalar.cmpi .slt v313 c0_i32_307
  let c0_i32_308 : BitVec 32 := 0#32
  let v316 : BitVec 1 := Scalar.cmpi .slt v312 c0_i32_308
  let v317 : BitVec 1 := Scalar.xori v315 v316
  let c0_i32_306 : BitVec 32 := 0#32
  let v314 : BitVec 1 := Scalar.cmpi .ne v313 c0_i32_306
  let v318 : BitVec 1 := Scalar.andi v317 v314
  let v319 : BitVec 32 := Scalar.addi v313 v312
  let v320 : BitVec 32 := Scalar.select v318 v319 v313
  let v321 : Index := Scalar.indexCast v320
  let c0_309 : Index := 0#32
  let c0_310 : Index := 0#32
  let c0_311 : Index := 0#32
  ![v321.toNat, 0, 0, 0]
def k0_dev8 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_337 : BitVec 32 := 1#32
  let v342 : BitVec 32 := Scalar.muli v14 c1_i32_337
  let v343 : BitVec 32 := Scalar.addi c0_i32_338 v342
  v343.toNat
def k0_off7 (d0 : Dev nD) (c0_i32_367 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v372 : BitVec 32 := Scalar.subi v2 c0_i32_367
  let c1_i32_368 : BitVec 32 := 1#32
  let v373 : BitVec 32 := Scalar.subi v372 c1_i32_368
  let c4_i32_369 : BitVec 32 := 4#32
  let v374 : BitVec 32 := Scalar.addi v373 c4_i32_369
  let c4_i32_370 : BitVec 32 := 4#32
  let c0_i32_371 : BitVec 32 := 0#32
  let v375 : BitVec 1 := Scalar.cmpi .eq c4_i32_370 c0_i32_371
  let c1_i32_372 : BitVec 32 := 1#32
  let v376 : BitVec 32 := Scalar.select v375 c1_i32_372 c4_i32_370
  let v377 : BitVec 32 := Scalar.remsi v374 v376
  let c0_i32_374 : BitVec 32 := 0#32
  let v379 : BitVec 1 := Scalar.cmpi .slt v377 c0_i32_374
  let c0_i32_375 : BitVec 32 := 0#32
  let v380 : BitVec 1 := Scalar.cmpi .slt v376 c0_i32_375
  let v381 : BitVec 1 := Scalar.xori v379 v380
  let c0_i32_373 : BitVec 32 := 0#32
  let v378 : BitVec 1 := Scalar.cmpi .ne v377 c0_i32_373
  let v382 : BitVec 1 := Scalar.andi v381 v378
  let v383 : BitVec 32 := Scalar.addi v377 v376
  let v384 : BitVec 32 := Scalar.select v382 v383 v377
  let v385 : Index := Scalar.indexCast v384
  let c1_376 : Index := 1#32
  let c0_377 : Index := 0#32
  let c0_378 : Index := 0#32
  ![v385.toNat, 1, 0, 0]
def k0_dev9 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_405 : BitVec 32 := 1#32
  let v407 : BitVec 32 := Scalar.muli v25 c1_i32_405
  let v408 : BitVec 32 := Scalar.addi c0_i32_406 v407
  v408.toNat
def k0_off8 (d0 : Dev nD) (c0_i32_434 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v436 : BitVec 32 := Scalar.addi v2 c0_i32_434
  let c1_i32_435 : BitVec 32 := 1#32
  let v437 : BitVec 32 := Scalar.addi v436 c1_i32_435
  let c4_i32_436 : BitVec 32 := 4#32
  let c0_i32_437 : BitVec 32 := 0#32
  let v438 : BitVec 1 := Scalar.cmpi .eq c4_i32_436 c0_i32_437
  let c1_i32_438 : BitVec 32 := 1#32
  let v439 : BitVec 32 := Scalar.select v438 c1_i32_438 c4_i32_436
  let v440 : BitVec 32 := Scalar.remsi v437 v439
  let c0_i32_440 : BitVec 32 := 0#32
  let v442 : BitVec 1 := Scalar.cmpi .slt v440 c0_i32_440
  let c0_i32_441 : BitVec 32 := 0#32
  let v443 : BitVec 1 := Scalar.cmpi .slt v439 c0_i32_441
  let v444 : BitVec 1 := Scalar.xori v442 v443
  let c0_i32_439 : BitVec 32 := 0#32
  let v441 : BitVec 1 := Scalar.cmpi .ne v440 c0_i32_439
  let v445 : BitVec 1 := Scalar.andi v444 v441
  let v446 : BitVec 32 := Scalar.addi v440 v439
  let v447 : BitVec 32 := Scalar.select v445 v446 v440
  let v448 : Index := Scalar.indexCast v447
  let c1_442 : Index := 1#32
  let c0_443 : Index := 0#32
  let c0_444 : Index := 0#32
  ![v448.toNat, 1, 0, 0]
def k0_dev10 (d0 : Dev nD) : Nat :=
  let c0_i32_471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_470 : BitVec 32 := 1#32
  let v469 : BitVec 32 := Scalar.muli v14 c1_i32_470
  let v470 : BitVec 32 := Scalar.addi c0_i32_471 v469
  v470.toNat
def k0_dev11 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_538 : BitVec 32 := 1#32
  let v534 : BitVec 32 := Scalar.muli v25 c1_i32_538
  let v535 : BitVec 32 := Scalar.addi c0_i32_539 v534
  v535.toNat
def k0_dev12 (d0 : Dev nD) : Nat :=
  let c0_i32_604 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_603 : BitVec 32 := 1#32
  let v596 : BitVec 32 := Scalar.muli v14 c1_i32_603
  let v597 : BitVec 32 := Scalar.addi c0_i32_604 v596
  v597.toNat
def k0_dev13 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_671 : BitVec 32 := 1#32
  let v661 : BitVec 32 := Scalar.muli v25 c1_i32_671
  let v662 : BitVec 32 := Scalar.addi c0_i32_672 v661
  v662.toNat
def k0_dev14 (d0 : Dev nD) : Nat :=
  let c0_i32_737 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_736 : BitVec 32 := 1#32
  let v723 : BitVec 32 := Scalar.muli v14 c1_i32_736
  let v724 : BitVec 32 := Scalar.addi c0_i32_737 v723
  v724.toNat
def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_195 : BitVec 32 := 1#32
  let v202 : BitVec 32 := Scalar.addi v2 c1_i32_195
  let c4_i32_196 : BitVec 32 := 4#32
  let c0_i32_197 : BitVec 32 := 0#32
  let v203 : BitVec 1 := Scalar.cmpi .eq c4_i32_196 c0_i32_197
  let c1_i32_198 : BitVec 32 := 1#32
  let v204 : BitVec 32 := Scalar.select v203 c1_i32_198 c4_i32_196
  let v205 : BitVec 32 := Scalar.remsi v202 v204
  let c0_i32_200 : BitVec 32 := 0#32
  let v207 : BitVec 1 := Scalar.cmpi .slt v205 c0_i32_200
  let c0_i32_201 : BitVec 32 := 0#32
  let v208 : BitVec 1 := Scalar.cmpi .slt v204 c0_i32_201
  let v209 : BitVec 1 := Scalar.xori v207 v208
  let c0_i32_199 : BitVec 32 := 0#32
  let v206 : BitVec 1 := Scalar.cmpi .ne v205 c0_i32_199
  let v210 : BitVec 1 := Scalar.andi v209 v206
  let v211 : BitVec 32 := Scalar.addi v205 v204
  let v212 : BitVec 32 := Scalar.select v210 v211 v205
  let v776 : Index := Scalar.indexCast v212
  let c0_786 : Index := 0#32
  let c0_787 : Index := 0#32
  let c0_788 : Index := 0#32
  ![v776.toNat, 0, 0, 0]
def k0_off10 (d0 : Dev nD) (c0_i32_800 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_791 : BitVec 32 := 1#32
  let v782 : BitVec 32 := Scalar.addi v2 c1_i32_791
  let c0_i32_792 : BitVec 32 := 0#32
  let v783 : BitVec 32 := Scalar.subi v782 c0_i32_792
  let c4_i32_793 : BitVec 32 := 4#32
  let v784 : BitVec 32 := Scalar.addi v783 c4_i32_793
  let c4_i32_794 : BitVec 32 := 4#32
  let c0_i32_795 : BitVec 32 := 0#32
  let v785 : BitVec 1 := Scalar.cmpi .eq c4_i32_794 c0_i32_795
  let c1_i32_796 : BitVec 32 := 1#32
  let v786 : BitVec 32 := Scalar.select v785 c1_i32_796 c4_i32_794
  let v787 : BitVec 32 := Scalar.remsi v784 v786
  let c0_i32_798 : BitVec 32 := 0#32
  let v789 : BitVec 1 := Scalar.cmpi .slt v787 c0_i32_798
  let c0_i32_799 : BitVec 32 := 0#32
  let v790 : BitVec 1 := Scalar.cmpi .slt v786 c0_i32_799
  let v791 : BitVec 1 := Scalar.xori v789 v790
  let c0_i32_797 : BitVec 32 := 0#32
  let v788 : BitVec 1 := Scalar.cmpi .ne v787 c0_i32_797
  let v792 : BitVec 1 := Scalar.andi v791 v788
  let v793 : BitVec 32 := Scalar.addi v787 v786
  let v794 : BitVec 32 := Scalar.select v792 v793 v787
  let c512_i32 : BitVec 32 := 512#32
  let v795 : BitVec 32 := Scalar.muli v794 c512_i32
  let v796 : BitVec 32 := Scalar.addi v795 c0_i32_800
  let v797 : Index := Scalar.indexCast v796
  let c0_801 : Index := 0#32
  ![v797.toNat, 0]
def k0_off11 (d0 : Dev nD) (c0_i32_803 : BitVec 32) (c0_i32_812 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_802 : BitVec 32 := 1#32
  let v799 : BitVec 32 := Scalar.addi v2 c1_i32_802
  let v800 : BitVec 32 := Scalar.subi v799 c0_i32_803
  let c4_i32_804 : BitVec 32 := 4#32
  let v801 : BitVec 32 := Scalar.addi v800 c4_i32_804
  let c4_i32_805 : BitVec 32 := 4#32
  let c0_i32_806 : BitVec 32 := 0#32
  let v802 : BitVec 1 := Scalar.cmpi .eq c4_i32_805 c0_i32_806
  let c1_i32_807 : BitVec 32 := 1#32
  let v803 : BitVec 32 := Scalar.select v802 c1_i32_807 c4_i32_805
  let v804 : BitVec 32 := Scalar.remsi v801 v803
  let c0_i32_809 : BitVec 32 := 0#32
  let v806 : BitVec 1 := Scalar.cmpi .slt v804 c0_i32_809
  let c0_i32_810 : BitVec 32 := 0#32
  let v807 : BitVec 1 := Scalar.cmpi .slt v803 c0_i32_810
  let v808 : BitVec 1 := Scalar.xori v806 v807
  let c0_i32_808 : BitVec 32 := 0#32
  let v805 : BitVec 1 := Scalar.cmpi .ne v804 c0_i32_808
  let v809 : BitVec 1 := Scalar.andi v808 v805
  let v810 : BitVec 32 := Scalar.addi v804 v803
  let v811 : BitVec 32 := Scalar.select v809 v810 v804
  let c512_i32_811 : BitVec 32 := 512#32
  let v812 : BitVec 32 := Scalar.muli v811 c512_i32_811
  let v813 : BitVec 32 := Scalar.addi v812 c0_i32_812
  let c0_i32_821 : BitVec 32 := 0#32
  ![v813.toNat, 0]
def k0_dev15 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_819 : BitVec 32 := 1#32
  let v814 : BitVec 32 := Scalar.muli v25 c1_i32_819
  let v815 : BitVec 32 := Scalar.addi c0_i32_820 v814
  v815.toNat
def k0_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_202 : BitVec 32 := 1#32
  let v213 : BitVec 32 := Scalar.subi v2 c1_i32_202
  let c4_i32_203 : BitVec 32 := 4#32
  let v214 : BitVec 32 := Scalar.addi v213 c4_i32_203
  let c4_i32_204 : BitVec 32 := 4#32
  let c0_i32_205 : BitVec 32 := 0#32
  let v215 : BitVec 1 := Scalar.cmpi .eq c4_i32_204 c0_i32_205
  let c1_i32_206 : BitVec 32 := 1#32
  let v216 : BitVec 32 := Scalar.select v215 c1_i32_206 c4_i32_204
  let v217 : BitVec 32 := Scalar.remsi v214 v216
  let c0_i32_208 : BitVec 32 := 0#32
  let v219 : BitVec 1 := Scalar.cmpi .slt v217 c0_i32_208
  let c0_i32_209 : BitVec 32 := 0#32
  let v220 : BitVec 1 := Scalar.cmpi .slt v216 c0_i32_209
  let v221 : BitVec 1 := Scalar.xori v219 v220
  let c0_i32_207 : BitVec 32 := 0#32
  let v218 : BitVec 1 := Scalar.cmpi .ne v217 c0_i32_207
  let v222 : BitVec 1 := Scalar.andi v221 v218
  let v223 : BitVec 32 := Scalar.addi v217 v216
  let v224 : BitVec 32 := Scalar.select v222 v223 v217
  let v863 : Index := Scalar.indexCast v224
  let c0_865 : Index := 0#32
  let c0_866 : Index := 0#32
  let c0_867 : Index := 0#32
  ![v863.toNat, 0, 0, 0]
def k0_off13 (d0 : Dev nD) (c0_i32_881 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_871 : BitVec 32 := 1#32
  let v869 : BitVec 32 := Scalar.subi v2 c1_i32_871
  let c0_i32_872 : BitVec 32 := 0#32
  let v870 : BitVec 32 := Scalar.addi v869 c0_i32_872
  let c4_i32_873 : BitVec 32 := 4#32
  let v871 : BitVec 32 := Scalar.addi v870 c4_i32_873
  let c4_i32_874 : BitVec 32 := 4#32
  let c0_i32_875 : BitVec 32 := 0#32
  let v872 : BitVec 1 := Scalar.cmpi .eq c4_i32_874 c0_i32_875
  let c1_i32_876 : BitVec 32 := 1#32
  let v873 : BitVec 32 := Scalar.select v872 c1_i32_876 c4_i32_874
  let v874 : BitVec 32 := Scalar.remsi v871 v873
  let c0_i32_878 : BitVec 32 := 0#32
  let v876 : BitVec 1 := Scalar.cmpi .slt v874 c0_i32_878
  let c0_i32_879 : BitVec 32 := 0#32
  let v877 : BitVec 1 := Scalar.cmpi .slt v873 c0_i32_879
  let v878 : BitVec 1 := Scalar.xori v876 v877
  let c0_i32_877 : BitVec 32 := 0#32
  let v875 : BitVec 1 := Scalar.cmpi .ne v874 c0_i32_877
  let v879 : BitVec 1 := Scalar.andi v878 v875
  let v880 : BitVec 32 := Scalar.addi v874 v873
  let v881 : BitVec 32 := Scalar.select v879 v880 v874
  let c512_i32_880 : BitVec 32 := 512#32
  let v882 : BitVec 32 := Scalar.muli v881 c512_i32_880
  let c256_i32 : BitVec 32 := 256#32
  let v883 : BitVec 32 := Scalar.addi v882 c256_i32
  let v884 : BitVec 32 := Scalar.addi v883 c0_i32_881
  let v885 : Index := Scalar.indexCast v884
  let c0_882 : Index := 0#32
  ![v885.toNat, 0]
def k0_off14 (d0 : Dev nD) (c0_i32_884 : BitVec 32) (c0_i32_894 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_883 : BitVec 32 := 1#32
  let v887 : BitVec 32 := Scalar.subi v2 c1_i32_883
  let v888 : BitVec 32 := Scalar.addi v887 c0_i32_884
  let c4_i32_885 : BitVec 32 := 4#32
  let v889 : BitVec 32 := Scalar.addi v888 c4_i32_885
  let c4_i32_886 : BitVec 32 := 4#32
  let c0_i32_887 : BitVec 32 := 0#32
  let v890 : BitVec 1 := Scalar.cmpi .eq c4_i32_886 c0_i32_887
  let c1_i32_888 : BitVec 32 := 1#32
  let v891 : BitVec 32 := Scalar.select v890 c1_i32_888 c4_i32_886
  let v892 : BitVec 32 := Scalar.remsi v889 v891
  let c0_i32_890 : BitVec 32 := 0#32
  let v894 : BitVec 1 := Scalar.cmpi .slt v892 c0_i32_890
  let c0_i32_891 : BitVec 32 := 0#32
  let v895 : BitVec 1 := Scalar.cmpi .slt v891 c0_i32_891
  let v896 : BitVec 1 := Scalar.xori v894 v895
  let c0_i32_889 : BitVec 32 := 0#32
  let v893 : BitVec 1 := Scalar.cmpi .ne v892 c0_i32_889
  let v897 : BitVec 1 := Scalar.andi v896 v893
  let v898 : BitVec 32 := Scalar.addi v892 v891
  let v899 : BitVec 32 := Scalar.select v897 v898 v892
  let c512_i32_892 : BitVec 32 := 512#32
  let v900 : BitVec 32 := Scalar.muli v899 c512_i32_892
  let c256_i32_893 : BitVec 32 := 256#32
  let v901 : BitVec 32 := Scalar.addi v900 c256_i32_893
  let v902 : BitVec 32 := Scalar.addi v901 c0_i32_894
  let c0_i32_903 : BitVec 32 := 0#32
  ![v902.toNat, 0]
def k0_dev16 (d0 : Dev nD) : Nat :=
  let c0_i32_902 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_901 : BitVec 32 := 1#32
  let v903 : BitVec 32 := Scalar.muli v14 c1_i32_901
  let v904 : BitVec 32 := Scalar.addi c0_i32_902 v903
  v904.toNat
def k0_off15 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_195 : BitVec 32 := 1#32
  let v202 : BitVec 32 := Scalar.addi v2 c1_i32_195
  let c4_i32_196 : BitVec 32 := 4#32
  let c0_i32_197 : BitVec 32 := 0#32
  let v203 : BitVec 1 := Scalar.cmpi .eq c4_i32_196 c0_i32_197
  let c1_i32_198 : BitVec 32 := 1#32
  let v204 : BitVec 32 := Scalar.select v203 c1_i32_198 c4_i32_196
  let v205 : BitVec 32 := Scalar.remsi v202 v204
  let c0_i32_200 : BitVec 32 := 0#32
  let v207 : BitVec 1 := Scalar.cmpi .slt v205 c0_i32_200
  let c0_i32_201 : BitVec 32 := 0#32
  let v208 : BitVec 1 := Scalar.cmpi .slt v204 c0_i32_201
  let v209 : BitVec 1 := Scalar.xori v207 v208
  let c0_i32_199 : BitVec 32 := 0#32
  let v206 : BitVec 1 := Scalar.cmpi .ne v205 c0_i32_199
  let v210 : BitVec 1 := Scalar.andi v209 v206
  let v211 : BitVec 32 := Scalar.addi v205 v204
  let v212 : BitVec 32 := Scalar.select v210 v211 v205
  let v954 : Index := Scalar.indexCast v212
  let c1_949 : Index := 1#32
  let c0_950 : Index := 0#32
  let c0_951 : Index := 0#32
  ![v954.toNat, 1, 0, 0]
def k0_dev17 (d0 : Dev nD) : Nat :=
  let c0_i32_984 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_983 : BitVec 32 := 1#32
  let v992 : BitVec 32 := Scalar.muli v25 c1_i32_983
  let v993 : BitVec 32 := Scalar.addi c0_i32_984 v992
  v993.toNat
def k0_off16 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_202 : BitVec 32 := 1#32
  let v213 : BitVec 32 := Scalar.subi v2 c1_i32_202
  let c4_i32_203 : BitVec 32 := 4#32
  let v214 : BitVec 32 := Scalar.addi v213 c4_i32_203
  let c4_i32_204 : BitVec 32 := 4#32
  let c0_i32_205 : BitVec 32 := 0#32
  let v215 : BitVec 1 := Scalar.cmpi .eq c4_i32_204 c0_i32_205
  let c1_i32_206 : BitVec 32 := 1#32
  let v216 : BitVec 32 := Scalar.select v215 c1_i32_206 c4_i32_204
  let v217 : BitVec 32 := Scalar.remsi v214 v216
  let c0_i32_208 : BitVec 32 := 0#32
  let v219 : BitVec 1 := Scalar.cmpi .slt v217 c0_i32_208
  let c0_i32_209 : BitVec 32 := 0#32
  let v220 : BitVec 1 := Scalar.cmpi .slt v216 c0_i32_209
  let v221 : BitVec 1 := Scalar.xori v219 v220
  let c0_i32_207 : BitVec 32 := 0#32
  let v218 : BitVec 1 := Scalar.cmpi .ne v217 c0_i32_207
  let v222 : BitVec 1 := Scalar.andi v221 v218
  let v223 : BitVec 32 := Scalar.addi v217 v216
  let v224 : BitVec 32 := Scalar.select v222 v223 v217
  let v1041 : Index := Scalar.indexCast v224
  let c1_1029 : Index := 1#32
  let c0_1030 : Index := 0#32
  let c0_1031 : Index := 0#32
  ![v1041.toNat, 1, 0, 0]
def k0_dev18 (d0 : Dev nD) : Nat :=
  let c0_i32_1067 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1066 : BitVec 32 := 1#32
  let v1081 : BitVec 32 := Scalar.muli v14 c1_i32_1066
  let v1082 : BitVec 32 := Scalar.addi c0_i32_1067 v1081
  v1082.toNat
def k0_dev19 (d0 : Dev nD) : Nat :=
  let c0_i32_1109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1108 : BitVec 32 := 1#32
  let v1125 : BitVec 32 := Scalar.muli v25 c1_i32_1108
  let v1126 : BitVec 32 := Scalar.addi c0_i32_1109 v1125
  v1126.toNat
def k0_dev20 (d0 : Dev nD) : Nat :=
  let c0_i32_1153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1152 : BitVec 32 := 1#32
  let v1171 : BitVec 32 := Scalar.muli v14 c1_i32_1152
  let v1172 : BitVec 32 := Scalar.addi c0_i32_1153 v1171
  v1172.toNat
def k0_dev21 (d0 : Dev nD) : Nat :=
  let c0_i32_1195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1194 : BitVec 32 := 1#32
  let v1215 : BitVec 32 := Scalar.muli v25 c1_i32_1194
  let v1216 : BitVec 32 := Scalar.addi c0_i32_1195 v1215
  v1216.toNat
def k0_dev22 (d0 : Dev nD) : Nat :=
  let c0_i32_1239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1238 : BitVec 32 := 1#32
  let v1261 : BitVec 32 := Scalar.muli v14 c1_i32_1238
  let v1262 : BitVec 32 := Scalar.addi c0_i32_1239 v1261
  v1262.toNat
def k0_dev23 (d0 : Dev nD) : Nat :=
  let c0_i32_1281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1280 : BitVec 32 := 1#32
  let v1305 : BitVec 32 := Scalar.muli v25 c1_i32_1280
  let v1306 : BitVec 32 := Scalar.addi c0_i32_1281 v1305
  v1306.toNat
def k0_dev24 (d0 : Dev nD) : Nat :=
  let c0_i32_1325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1324 : BitVec 32 := 1#32
  let v1351 : BitVec 32 := Scalar.muli v14 c1_i32_1324
  let v1352 : BitVec 32 := Scalar.addi c0_i32_1325 v1351
  v1352.toNat
def k0_dev25 (d0 : Dev nD) : Nat :=
  let c0_i32_1367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1366 : BitVec 32 := 1#32
  let v1395 : BitVec 32 := Scalar.muli v25 c1_i32_1366
  let v1396 : BitVec 32 := Scalar.addi c0_i32_1367 v1395
  v1396.toNat
def k0_dev26 (d0 : Dev nD) : Nat :=
  let c0_i32_1411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1410 : BitVec 32 := 1#32
  let v1441 : BitVec 32 := Scalar.muli v14 c1_i32_1410
  let v1442 : BitVec 32 := Scalar.addi c0_i32_1411 v1441
  v1442.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S1024x1024 : Shape := ⟨2, ![1024, 1024]⟩
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x2048x1024, .f32⟩
  | .hbm, ⟨4, _⟩ => ⟨S_, .f32⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S2048x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Ops.lean ====
/- The kernel body as a list of operations.

   The body is unrolled: two directions `d` (`0` to the right neighbour, `1` to the left one), three
   steps, two sub-slices `j`.  Here each operation is written once, over `d`, `j` and the step, with
   the offsets the kernel computes looked up by `(d, j)`; `body_eq` says that the printed body is
   the run of the list `ops`. -/
module

public import proofs.«01_k».proof.Proof.Gen.KernelIdeal.Skeleton
public import proofs.«01_k».proof.Proof.Gen.KernelIdeal.Points

@[expose] public section

noncomputable section

namespace Cert.KernelIdeal.Ring

open Idealize.ShloMosaic Idealize.ShloMosaic.TcCoe
open Idealize.SL.Sem
open Cert.KernelIdeal.Gen

variable {F : FTy → Type} [FloatOps F]

/-! ## The buffers -/

/-- The staged block of `t`, the staged weights and the staged result. -/
abbrev tM : Memref sig .tc .vmem S2048x1024 .bf16 := Memref.whole cc0_stg0_0
abbrev wM : Memref sig .tc .vmem S1024x1024 .bf16 := Memref.whole cc0_stg1_0
abbrev oM : Memref sig .tc .vmem S2048x1024 .bf16 := Memref.whole cc0_stg2_0
/-- The weights' copy the products read, and the buffer the partial sums land in. -/
abbrev wbM : Memref sig .tc .vmem S1024x1024 .bf16 := Memref.whole cc0_scratch2
abbrev rM : Memref sig .tc .vmem S2x3x2x128x1024 .bf16 := Memref.whole cc0_scratch3
/-- The buffer of each direction's partial sums. -/
abbrev bufM : Fin 2 → Memref sig .tc .vmem S4x2x128x1024 .bf16
  | 0 => Memref.whole cc0_scratch0
  | 1 => Memref.whole cc0_scratch1

theorem bufM_whole : ∀ d, (bufM d).IsWhole
  | 0 => Memref.isWhole_whole _
  | 1 => Memref.isWhole_whole _

/-! ## Offsets -/

/-- The chunk a direction's step sends. -/
def sndOff : Fin 2 → Fin 2 → Dev nD → Fin 3 → Fin 4 → Nat
  | 0, 0 => fun c s => k0_off1 c (BitVec.ofNat 32 s.val)
  | 0, 1 => fun c s => k0_off2 c (BitVec.ofNat 32 s.val)
  | 1, 0 => fun c s => k0_off3 c (BitVec.ofNat 32 s.val)
  | 1, 1 => fun c s => k0_off4 c (BitVec.ofNat 32 s.val)
/-- The chunk a direction's step adds the landed slice to. -/
def rcvOff : Fin 2 → Fin 2 → Dev nD → Fin 3 → Fin 4 → Nat
  | 0, 0 => fun c s => k0_off5 c (BitVec.ofNat 32 s.val)
  | 0, 1 => fun c s => k0_off7 c (BitVec.ofNat 32 s.val)
  | 1, 0 => fun c s => k0_off6 c (BitVec.ofNat 32 s.val)
  | 1, 1 => fun c s => k0_off8 c (BitVec.ofNat 32 s.val)
/-- The chunk whose sum a direction completes on this device. -/
def ownOff : Fin 2 → Fin 2 → Dev nD → Fin 4 → Nat
  | 0, 0 => fun c => k0_off9 c
  | 0, 1 => fun c => k0_off15 c
  | 1, 0 => fun c => k0_off12 c
  | 1, 1 => fun c => k0_off16 c
/-- The rows of the result this device computes. -/
def outOff : Fin 2 → Fin 2 → Dev nD → Fin 2 → Nat
  | 0, j => fun c => k0_off10 c (BitVec.ofNat 32 (128 * j.val))
  | 1, j => fun c => k0_off13 c (BitVec.ofNat 32 (128 * j.val))
/-- The rows of the result a gather step sends. -/
def agOff : Fin 2 → Fin 2 → Dev nD → Fin 3 → Fin 2 → Nat
  | 0, j => fun c h => k0_off11 c (BitVec.ofNat 32 h.val) (BitVec.ofNat 32 (128 * j.val))
  | 1, j => fun c h => k0_off14 c (BitVec.ofNat 32 h.val) (BitVec.ofNat 32 (128 * j.val))

theorem sndOff_inb : ∀ d j c s a, sndOff d j c s a + S1x1x128x1024.size a ≤ S4x2x128x1024.size a
  | 0, 0 => fun c s => k0_off1_inb c s
  | 0, 1 => fun c s => k0_off2_inb c s
  | 1, 0 => fun c s => k0_off3_inb c s
  | 1, 1 => fun c s => k0_off4_inb c s
theorem rcvOff_inb : ∀ d j c s a, rcvOff d j c s a + S1x1x128x1024.size a ≤ S4x2x128x1024.size a
  | 0, 0 => fun c s => k0_off5_inb c s
  | 0, 1 => fun c s => k0_off7_inb c s
  | 1, 0 => fun c s => k0_off6_inb c s
  | 1, 1 => fun c s => k0_off8_inb c s
theorem ownOff_inb : ∀ d j c a, ownOff d j c a + S1x1x128x1024.size a ≤ S4x2x128x1024.size a
  | 0, 0 => fun c => k0_off9_inb c
  | 0, 1 => fun c => k0_off15_inb c
  | 1, 0 => fun c => k0_off12_inb c
  | 1, 1 => fun c => k0_off16_inb c
theorem outOff_inb : ∀ d j c a, outOff d j c a + S128x1024.size a ≤ S2048x1024.size a
  | 0, j => fun c => k0_off10_inb c j
  | 1, j => fun c => k0_off13_inb c j
theorem agOff_inb : ∀ d j c h a, agOff d j c h a + S128x1024.size a ≤ S2048x1024.size a
  | 0, j => fun c h => k0_off11_inb c h j
  | 1, j => fun c h => k0_off14_inb c h j

/-- The rows of `t` that chunk `q`, half `d`, sub-slice `j` takes. -/
abbrev tOff (q : Fin 4) (d j : Fin 2) : Fin 2 → Nat := ![q.val * 512 + d.val * 256 + j.val * 128, 0]
theorem tOff_inb : ∀ q d j a, tOff q d j a + S128x1024.size a ≤ S2048x1024.size a := by decide
abbrev stOff (q : Fin 4) (j : Fin 2) : Fin 4 → Nat := ![q.val, j.val, 0, 0]
theorem stOff_inb : ∀ q j a, stOff q j a + S1x1x128x1024.size a ≤ S4x2x128x1024.size a := by decide
theorem stOff_packed : ∀ q j, (Rect.unit (s := S4x2x128x1024) (stOff q j) S1x1x128x1024.size
    (stOff_inb q j)).PackedRows (EltTy.packing .bf16) := by decide
abbrev rOff (d : Fin 2) (s : Fin 3) (j : Fin 2) : Fin 5 → Nat := ![d.val, s.val, j.val, 0, 0]
theorem rOff_inb : ∀ d s j a,
    rOff d s j a + S1x1x1x128x1024.size a ≤ S2x3x2x128x1024.size a := by decide
theorem rOff_words : ∀ d s j, (Rect.unit (s := S2x3x2x128x1024) (rOff d s j)
    S1x1x1x128x1024.size (rOff_inb d s j)).WholeWords (EltTy.packing .bf16) := by decide
abbrev semOff (d : Fin 2) (s : Fin 3) (j : Fin 2) : Fin 3 → Nat := ![d.val, s.val, j.val]
theorem semOff_inb : ∀ d s j a, semOff d s j a + S1x1x1.size a ≤ S2x3x2.size a := by decide
theorem sndOff_words : ∀ d j c s, (Rect.unit (s := S4x2x128x1024) (sndOff d j c s)
    S1x1x128x1024.size (sndOff_inb d j c s)).WholeWords (EltTy.packing .bf16)
  | 0, 0 => fun c s => k0_off1_wordsbf16 c s
  | 0, 1 => fun c s => k0_off2_wordsbf16 c s
  | 1, 0 => fun c s => k0_off3_wordsbf16 c s
  | 1, 1 => fun c s => k0_off4_wordsbf16 c s
theorem rcvOff_packed : ∀ d j c s, (Rect.unit (s := S4x2x128x1024) (rcvOff d j c s)
    S1x1x128x1024.size (rcvOff_inb d j c s)).PackedRows (EltTy.packing .bf16)
  | 0, 0 => fun c s => k0_off5_packedbf16 c s
  | 0, 1 => fun c s => k0_off7_packedbf16 c s
  | 1, 0 => fun c s => k0_off6_packedbf16 c s
  | 1, 1 => fun c s => k0_off8_packedbf16 c s
theorem outOff_packed : ∀ d j c, (Rect.unit (s := S2048x1024) (outOff d j c)
    S128x1024.size (outOff_inb d j c)).PackedRows (EltTy.packing .bf16)
  | 0, j => fun c => k0_off10_packedbf16 c j
  | 1, j => fun c => k0_off13_packedbf16 c j
theorem agOff_words : ∀ d j c h, (Rect.unit (s := S2048x1024) (agOff d j c h)
    S128x1024.size (agOff_inb d j c h)).WholeWords (EltTy.packing .bf16)
  | 0, j => fun c h => k0_off11_wordsbf16 c h j
  | 1, j => fun c h => k0_off14_wordsbf16 c h j

/-! ## Slices -/

abbrev sndRect (d j : Fin 2) (c : Dev nD) (s : Fin 3) : Rect S4x2x128x1024 :=
  Rect.unit (s := S4x2x128x1024) (sndOff d j c s) S1x1x128x1024.size (sndOff_inb d j c s)
abbrev rcvRect (d j : Fin 2) (c : Dev nD) (s : Fin 3) : Rect S4x2x128x1024 :=
  Rect.unit (s := S4x2x128x1024) (rcvOff d j c s) S1x1x128x1024.size (rcvOff_inb d j c s)
abbrev ownRect (d j : Fin 2) (c : Dev nD) : Rect S4x2x128x1024 :=
  Rect.unit (s := S4x2x128x1024) (ownOff d j c) S1x1x128x1024.size (ownOff_inb d j c)
abbrev stRect (q : Fin 4) (j : Fin 2) : Rect S4x2x128x1024 :=
  Rect.unit (s := S4x2x128x1024) (stOff q j) S1x1x128x1024.size (stOff_inb q j)
abbrev rRect (d : Fin 2) (s : Fin 3) (j : Fin 2) : Rect S2x3x2x128x1024 :=
  Rect.unit (s := S2x3x2x128x1024) (rOff d s j) S1x1x1x128x1024.size (rOff_inb d s j)
abbrev tRect (q : Fin 4) (d j : Fin 2) : Rect S2048x1024 :=
  Rect.unit (s := S2048x1024) (tOff q d j) S128x1024.size (tOff_inb q d j)
abbrev outRect (d j : Fin 2) (c : Dev nD) : Rect S2048x1024 :=
  Rect.unit (s := S2048x1024) (outOff d j c) S128x1024.size (outOff_inb d j c)
abbrev agRect (d j : Fin 2) (c : Dev nD) (h : Fin 3) : Rect S2048x1024 :=
  Rect.unit (s := S2048x1024) (agOff d j c h) S128x1024.size (agOff_inb d j c h)
abbrev wRect : Rect S1024x1024 :=
  Rect.unit (s := S1024x1024) ![0, 0] S1024x1024.size inb_S1024x1024_S1024x1024_0_0

/-- The slice a reduce step sends, the slot it lands in, and the rows a gather step sends. -/
abbrev sndM (d j : Fin 2) (c : Dev nD) (s : Fin 3) : Memref sig .tc .vmem S128x1024 .bf16 :=
  ((bufM d).slice (sndRect d j c s) (fun _ => rfl)).squeeze S128x1024 squeezes_S1x1x128x1024_S128x1024
abbrev slotM (d : Fin 2) (s : Fin 3) (j : Fin 2) : Memref sig .tc .vmem S128x1024 .bf16 :=
  (rM.slice (rRect d s j) (fun _ => rfl)).squeeze S128x1024 squeezes_S1x1x1x128x1024_S128x1024
abbrev agM (d j : Fin 2) (c : Dev nD) (h : Fin 3) : Memref sig .tc .vmem S128x1024 .bf16 :=
  oM.slice (agRect d j c h) (fun _ => rfl)

theorem sndM_words (d j : Fin 2) (c : Dev nD) (s : Fin 3) : (sndM d j c s).view.WordExact :=
  ((bufM_whole d).wordExact_slice rfl _ (sndOff_words d j c s)).reshape _ _
theorem slotM_words (d : Fin 2) (s : Fin 3) (j : Fin 2) : (slotM d s j).view.WordExact :=
  ((Memref.isWhole_whole cc0_scratch3).wordExact_slice rfl _ (rOff_words d s j)).reshape _ _
theorem agM_words (d j : Fin 2) (c : Dev nD) (h : Fin 3) : (agM d j c h).view.WordExact :=
  (Memref.isWhole_whole cc0_stg2_0).wordExact_slice rfl _ (agOff_words d j c h)

/-! ## Semaphores and neighbours -/

abbrev semIn (a : DmaSems sig S2x3x2) (d : Fin 2) (s : Fin 3) (j : Fin 2) : DmaSem sig :=
  ((a.slice (Rect.unit (s := S2x3x2) (semOff d s j) S1x1x1.size (semOff_inb d s j))).squeeze S_
    squeezes_S1x1x1_S_).sem

/-- The four kinds of copy semaphore: a reduce copy's two ends and a gather copy's two ends. -/
inductive Kind | rsS | rsR | agS | agR
  deriving DecidableEq

instance : Fintype Kind := ⟨{.rsS, .rsR, .agS, .agR}, by intro k; cases k <;> decide⟩

abbrev semArr : Kind → DmaSems sig S2x3x2
  | .rsS => cc0_scratch4
  | .rsR => cc0_scratch5
  | .agS => cc0_scratch6
  | .agR => cc0_scratch7

/-- The semaphore of kind `k` at direction `d`, step `s`, sub-slice `j`. -/
abbrev dsem (k : Kind) (d : Fin 2) (s : Fin 3) (j : Fin 2) : DmaSem sig := semIn (semArr k) d s j
abbrev barS : Sem sig := (SemArray.scalar (sig.barrier 0 rfl) : Sems sig S_).sem

/-- The neighbour direction `d` sends to, as the kernel computes it. -/
def toDev : Fin 2 → Dev nD → Dev nD
  | 0, c => ⟨k0_dev3 c, k0_dev3_lt c⟩
  | 1, c => ⟨k0_dev5 c, k0_dev5_lt c⟩

/-! ## The operations -/

/-- One operation of the body. -/
inductive Op
  | bar
  | stage (q : Fin 4) (j d : Fin 2)
  | wcopy
  | rsSend (s : Fin 3) (j d : Fin 2)
  | acc (s : Fin 3) (j d : Fin 2)
  | mm (j d : Fin 2)
  | agSend (h : Fin 3) (j d : Fin 2)
  | agWait (h : Fin 3) (j d : Fin 2)
  | rsDone (s : Fin 3) (j d : Fin 2)
  | agDone (s : Fin 3) (j d : Fin 2)
  deriving DecidableEq

/-- Programs of one device's core. -/
abbrev Pr (F : FTy → Type) [FloatOps F] := Prog (TpuEff nD τ sig (Elt F) Λ₀ .tc) PUnit

def barP (c : Dev nD) : Pr F := do
  semSignalWord (⟨k0_dev1 c, k0_dev1_lt c⟩ : Dev nD) barS 1#32
  semSignalWord (⟨k0_dev2 c, k0_dev2_lt c⟩ : Dev nD) barS 1#32
  semWaitWord barS 2#32

def stageP (q : Fin 4) (j d : Fin 2) : Pr F := do
  let v : Vec F S128x1024 .bf16 ← Prog.lift (.load tM (tRect q d j).toLoadRect (View.loadsAt_vmem h_S128x1024))
  let _ : Vec F S1x1x128x1024 .bf16 ← Prog.lift (.load (bufM d) (stRect q j).toLoadRect (View.loadsAt_vmem h_S1x1x128x1024))
  Prog.lift (.store (bufM d) (stRect q j) (k0_pay1 v) Finset.univ
    (View.stores_vmem h_S1x1x128x1024 ((bufM_whole d).storeExact_slice rfl _ (stOff_packed q j)) (fun _ => rfl)) (.inl rfl))

def wcopyP : Pr F := do
  let v : Vec F S1024x1024 .bf16 ← Prog.lift (.load wM wRect.toLoadRect (View.loadsAt_vmem h_S1024x1024))
  let _ : Vec F S1024x1024 .bf16 ← Prog.lift (.load wbM wRect.toLoadRect (View.loadsAt_vmem h_S1024x1024))
  Prog.lift (.store wbM wRect (k0_pay17 v) Finset.univ
    (View.stores_vmem h_S1024x1024 ((Memref.isWhole_whole _).storeExact_slice rfl _ packedbf16_S1024x1024_S1024x1024_0_0) (fun _ => rfl)) (.inl rfl))

def rsSendP (c : Dev nD) (s : Fin 3) (j d : Fin 2) : Pr F :=
  Prog.lift (.enqueueDma (sndM d j c s) (.remote (Dev.tc (toDev d c)) (slotM d s j)
    (.dma (dsem .rsS d s j))) (.dma (dsem .rsR d s j))
    (sndM_words d j c s) (slotM_words d s j) ⟨⟨rfl, Or.inl rfl⟩, trivial⟩)

def accP (c : Dev nD) (s : Fin 3) (j d : Fin 2) : Pr F := do
  Prog.lift (.waitDma2 (dsem .rsR d s j) (sndM d j c s) (slotM d s j) (sndM_words d j c s) (slotM_words d s j))
  let a : Vec F S1x1x128x1024 .bf16 ← Prog.lift (.load (bufM d) (rcvRect d j c s).toLoadRect (View.loadsAt_vmem h_S1x1x128x1024))
  let b : Vec F S1x1x1x128x1024 .bf16 ← Prog.lift (.load rM (rRect d s j).toLoadRect (View.loadsAt_vmem h_S1x1x1x128x1024))
  let _ : Vec F S1x1x128x1024 .bf16 ← Prog.lift (.load (bufM d) (rcvRect d j c s).toLoadRect (View.loadsAt_vmem h_S1x1x128x1024))
  Prog.lift (.store (bufM d) (rcvRect d j c s) (k0_pay18 a b) Finset.univ
    (View.stores_vmem h_S1x1x128x1024 ((bufM_whole d).storeExact_slice rfl _ (rcvOff_packed d j c s)) (fun _ => rfl)) (.inl rfl))

def mmP (c : Dev nD) (j d : Fin 2) : Pr F := do
  let a : Vec F S1x1x128x1024 .bf16 ← Prog.lift (.load (bufM d) (ownRect d j c).toLoadRect (View.loadsAt_vmem h_S1x1x128x1024))
  let w : Vec F S1024x1024 .bf16 ← Prog.lift (.load wbM wRect.toLoadRect (View.loadsAt_vmem h_S1024x1024))
  let _ : Vec F S128x1024 .bf16 ← Prog.lift (.load oM (outRect d j c).toLoadRect (View.loadsAt_vmem h_S128x1024))
  Prog.lift (.store oM (outRect d j c) (k0_pay29 a w) Finset.univ
    (View.stores_vmem h_S128x1024 ((Memref.isWhole_whole _).storeExact_slice rfl _ (outOff_packed d j c)) (fun _ => rfl)) (.inl rfl))

def agSendP (c : Dev nD) (h : Fin 3) (j d : Fin 2) : Pr F :=
  Prog.lift (.enqueueDma (agM d j c h) (.remote (Dev.tc (toDev d c)) (agM d j c h)
    (.dma (dsem .agS d h j))) (.dma (dsem .agR d h j))
    (agM_words d j c h) (agM_words d j c h) ⟨⟨rfl, Or.inl rfl⟩, trivial⟩)

def agWaitP (c : Dev nD) (h : Fin 3) (j d : Fin 2) : Pr F :=
  Prog.lift (.waitDma2 (dsem .agR d h j) (agM d j c h) (agM d j c h) (agM_words d j c h) (agM_words d j c h))

def rsDoneP (c : Dev nD) (s : Fin 3) (j d : Fin 2) : Pr F :=
  Prog.lift (.waitDma2 (dsem .rsS d s j) (slotM d s j) (sndM d j c s) (slotM_words d s j) (sndM_words d j c s))

def agDoneP (c : Dev nD) (s : Fin 3) (j d : Fin 2) : Pr F :=
  Prog.lift (.waitDma2 (dsem .agS d s j) (agM d j c s) (agM d j c s) (agM_words d j c s) (agM_words d j c s))

/-- What an operation runs on device `c`. -/
def opP (c : Dev nD) : Op → Pr F
  | .bar => barP c
  | .stage q j d => stageP q j d
  | .wcopy => wcopyP
  | .rsSend s j d => rsSendP c s j d
  | .acc s j d => accP c s j d
  | .mm j d => mmP c j d
  | .agSend h j d => agSendP c h j d
  | .agWait h j d => agWaitP c h j d
  | .rsDone s j d => rsDoneP c s j d
  | .agDone s j d => agDoneP c s j d

/-- The operations in order. -/
def runOps (c : Dev nD) : List Op → Pr F
  | [] => pure ⟨⟩
  | o :: os => (opP c o).bind fun _ => runOps c os

/-- The body's operations, stretch by stretch. -/
def ops : List Op :=
  [.bar] ++
  ([0, 1, 2, 3].flatMap fun q => [0, 1].flatMap fun j => [0, 1].map fun d => .stage q j d) ++
  [.rsSend 0 0 0, .rsSend 0 1 0, .rsSend 0 0 1, .rsSend 0 1 1, .wcopy] ++
  ([0, 1].flatMap fun s => [0, 1].flatMap fun j => [0, 1].flatMap fun d =>
    [.acc s j d, .rsSend (s + 1) j d]) ++
  ([0, 1].flatMap fun j => [0, 1].flatMap fun d => [.acc 2 j d, .mm j d, .agSend 0 j d]) ++
  ([0, 1].flatMap fun h => [0, 1].flatMap fun j => [0, 1].flatMap fun d =>
    [.agWait h j d, .agSend (h + 1) j d]) ++
  ([0, 1].flatMap fun j => [0, 1].map fun d => .agWait 2 j d) ++
  ([0, 1, 2].flatMap fun s => [0, 1].flatMap fun j => [0, 1].flatMap fun d =>
    [.rsDone s j d, .agDone s j d])

set_option maxRecDepth 65536 in
/-- The printed body is the run of its operations. -/
theorem body_eq : cc0_body_skel (F := F) tM (Memref.isWhole_whole _) wM (Memref.isWhole_whole _) oM
    (Memref.isWhole_whole _) (bufM 0) (bufM_whole 0) (bufM 1) (bufM_whole 1) wbM (Memref.isWhole_whole _)
    rM (Memref.isWhole_whole _) cc0_scratch4 cc0_scratch5 cc0_scratch6 cc0_scratch7
    = (Prog.lift .deviceId).bind fun c => runOps c ops := by
  unfold ops
  rfl

end Cert.KernelIdeal.Ring

end
-- ==== Proof.Proto.lean ====
/- The exchange as a protocol: neighbours, contents, semaphores and the schedule of payments.

   Direction `d` moves every slice to `toDev d c`.  A device's reduce step `s` sends the partial sum
   `acc … s`, so that after three steps it holds the whole sum of the chunk `snd d c 3`; the gather
   then carries each device's product three hops along the same direction.  Every copy semaphore is
   used once: its round has one duty, the copy's credit.  The barrier semaphore's round has two, one
   for each direction: the device that will be written to in direction `d` signals the device that
   will write, and hands it the destinations. -/
module

public import proofs.«01_k».proof.Proof.Ops
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.Tactic

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's and the exchange's, whose duties are the two directions. -/
abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Neighbours and chunks -/

/-- The neighbour that sends to `c` in direction `d`. -/
def fromDev (d : Fin 2) (c : Dev nD) : Dev nD := toDev (1 - d) c

theorem toDev_fromDev : ∀ d c, toDev d (fromDev d c) = c := by decide +kernel
theorem fromDev_toDev : ∀ d c, fromDev d (toDev d c) = c := by decide +kernel
theorem dev1_eq : ∀ c : Dev nD, (⟨k0_dev1 c, k0_dev1_lt c⟩ : Dev nD) = fromDev 0 c := by decide +kernel
theorem dev2_eq : ∀ c : Dev nD, (⟨k0_dev2 c, k0_dev2_lt c⟩ : Dev nD) = fromDev 1 c := by decide +kernel

/-- A direction as a permutation of the devices. -/
def along (d : Fin 2) : Dev nD ≃ Dev nD :=
  ⟨toDev d, fromDev d, fromDev_toDev d, toDev_fromDev d⟩

/-- The chunk device `c` sends at step `s`; at `s = 3`, the chunk it ends with. -/
def snd (d : Fin 2) (c : Dev nD) (s : Fin 4) : Fin 4 :=
  match d with
  | 0 => ⟨(c.val + 4 - s.val) % 4, Nat.mod_lt _ (by decide)⟩
  | 1 => ⟨(c.val + s.val) % 4, Nat.mod_lt _ (by decide)⟩
abbrev own (d : Fin 2) (c : Dev nD) : Fin 4 := snd d c 3
/-- The step at which `c` sends chunk `q`. -/
def stepOf (d : Fin 2) (c : Dev nD) (q : Fin 4) : Fin 4 :=
  match d with
  | 0 => ⟨(c.val + 4 - q.val) % 4, Nat.mod_lt _ (by decide)⟩
  | 1 => ⟨(q.val + 4 - c.val) % 4, Nat.mod_lt _ (by decide)⟩
theorem snd_stepOf : ∀ d c q, snd d c (stepOf d c q) = q := by decide +kernel
theorem stepOf_snd : ∀ d c s, stepOf d c (snd d c s) = s := by decide +kernel
/-- What `c` adds to at step `s` is the chunk its neighbour sent, and its own next. -/
theorem snd_fromDev : ∀ d c (s : Fin 3), snd d (fromDev d c) s.castSucc = snd d c s.succ := by
  decide +kernel

/-- The device whose product `c` holds after `h` gather steps. -/
def up (d : Fin 2) (h : ℕ) (c : Dev nD) : Dev nD := (fromDev d)^[h] c
theorem up_zero (d : Fin 2) (c : Dev nD) : up d 0 c = c := rfl
theorem up_succ (d : Fin 2) (h : ℕ) (c : Dev nD) : up d (h + 1) c = up d h (fromDev d c) := rfl

/-- The device that ends with direction `d`'s chunk `q`. -/
def ownerOf (d : Fin 2) (q : Fin 4) : Dev nD :=
  match d with
  | 0 => ⟨(q.val + 3) % 4, Nat.mod_lt _ (by decide)⟩
  | 1 => ⟨(q.val + 1) % 4, Nat.mod_lt _ (by decide)⟩
theorem ownerOf_own : ∀ d c, ownerOf d (own d c) = c := by decide +kernel
theorem own_ownerOf : ∀ d q, own d (ownerOf d q) = q := by decide +kernel

theorem sndOff_eq (d j : Fin 2) (c : Dev nD) (s : Fin 3) : sndOff d j c s = stOff (snd d c s.castSucc) j :=
  funext fun a => by revert d j c s a; decide +kernel
theorem rcvOff_eq (d j : Fin 2) (c : Dev nD) (s : Fin 3) : rcvOff d j c s = stOff (snd d c s.succ) j :=
  funext fun a => by revert d j c s a; decide +kernel
theorem ownOff_eq (d j : Fin 2) (c : Dev nD) : ownOff d j c = stOff (own d c) j :=
  funext fun a => by revert d j c a; decide +kernel
theorem outOff_eq (d j : Fin 2) (c : Dev nD) : outOff d j c = tOff (own d c) d j :=
  funext fun a => by revert d j c a; decide +kernel
theorem agOff_eq (d j : Fin 2) (c : Dev nD) (h : Fin 3) : agOff d j c h = tOff (own d (up d h.val c)) d j :=
  funext fun a => by revert d j c h a; decide +kernel

/-! ## Slices by chunk -/

/-- Chunk `q`'s sub-slice `j` of a direction's buffer, and the rows of the result chunk `q`, half `d`, sub-slice `j` takes. -/
abbrev cellM (d : Fin 2) (q : Fin 4) (j : Fin 2) : Memref sig .tc .vmem S128x1024 .bf16 :=
  ((bufM d).slice (stRect q j) (fun _ => rfl)).squeeze S128x1024 squeezes_S1x1x128x1024_S128x1024
abbrev rowsM (q : Fin 4) (d j : Fin 2) : Memref sig .tc .vmem S128x1024 .bf16 :=
  oM.slice (tRect q d j) (fun _ => rfl)

theorem sndRect_eq (d j : Fin 2) (c : Dev nD) (s : Fin 3) : sndRect d j c s = stRect (snd d c s.castSucc) j :=
  Rect.unit_congr (sndOff_eq d j c s) _ _
theorem rcvRect_eq (d j : Fin 2) (c : Dev nD) (s : Fin 3) : rcvRect d j c s = stRect (snd d c s.succ) j :=
  Rect.unit_congr (rcvOff_eq d j c s) _ _
theorem ownRect_eq (d j : Fin 2) (c : Dev nD) : ownRect d j c = stRect (own d c) j :=
  Rect.unit_congr (ownOff_eq d j c) _ _
theorem outRect_eq (d j : Fin 2) (c : Dev nD) : outRect d j c = tRect (own d c) d j :=
  Rect.unit_congr (outOff_eq d j c) _ _
theorem agRect_eq (d j : Fin 2) (c : Dev nD) (h : Fin 3) : agRect d j c h = tRect (own d (up d h.val c)) d j :=
  Rect.unit_congr (agOff_eq d j c h) _ _

theorem sndM_eq (d j : Fin 2) (c : Dev nD) (s : Fin 3) : sndM d j c s = cellM d (snd d c s.castSucc) j := by
  have h : ∀ (o : Fin 4 → ℕ) (hi : ∀ a, o a + S1x1x128x1024.size a ≤ S4x2x128x1024.size a),
      o = stOff (snd d c s.castSucc) j →
      ((bufM d).slice (Rect.unit (s := S4x2x128x1024) o S1x1x128x1024.size hi) (fun _ => rfl)).squeeze S128x1024
        squeezes_S1x1x128x1024_S128x1024 = cellM d (snd d c s.castSucc) j := by
    rintro o hi rfl; rfl
  exact h _ _ (sndOff_eq d j c s)
theorem agM_eq (d j : Fin 2) (c : Dev nD) (h : Fin 3) : agM d j c h = rowsM (own d (up d h.val c)) d j := by
  have h' : ∀ (o : Fin 2 → ℕ) (hi : ∀ a, o a + S128x1024.size a ≤ S2048x1024.size a),
      o = tOff (own d (up d h.val c)) d j →
      oM.slice (Rect.unit (s := S2048x1024) o S128x1024.size hi) (fun _ => rfl)
        = rowsM (own d (up d h.val c)) d j := by
    rintro o hi rfl; rfl
  exact h' _ _ (agOff_eq d j c h)

/-! ## Contents -/

section Contents

variable (A : Dev nD → Vec F S2048x1024 .bf16) (B : Dev nD → Vec F S1024x1024 .bf16)

/-- Chunk `q`, half `d`, sub-slice `j` of a device's block of `t`. -/
def slab (c : Dev nD) (d : Fin 2) (q : Fin 4) (j : Fin 2) : Vec F S128x1024 .bf16 :=
  fun i => A c ((tRect q d j).emb i)

/-- The partial sum device `c` holds at step `s`: its own slice of the chunk and what the neighbour had. -/
def acc (d j : Fin 2) : ℕ → Dev nD → Vec F S128x1024 .bf16
  | 0, c => slab A c d (snd d c 0) j
  | s + 1, c => addf (φ := .bf16) (slab A c d (snd d c (Fin.ofNat 4 (s + 1))) j) (acc d j s (fromDev d c))

/-- The product of a device's complete chunk and the weights. -/
def prod (d j : Fin 2) (c : Dev nD) : Vec F S128x1024 .bf16 :=
  k0_pay29 (shapeCast S1x1x128x1024 (acc A d j 3 c) shapeCasts_S128x1024_S1x1x128x1024) (B c)

/-! ## Semaphore cells -/

/-- A copy semaphore: its kind, direction, step and sub-slice. -/
abbrev Ix := Kind × Fin 2 × Fin 3 × Fin 2

abbrev ixSem (i : Ix) : DmaSem sig := dsem i.1 i.2.1 i.2.2.1 i.2.2.2

/-- The copy semaphore a number names. -/
def kindOf (x : ℕ) : Option Ix :=
  if h : 3 ≤ x ∧ x < 51 then
    some (if x < 15 then .rsS else if x < 27 then .rsR else if x < 39 then .agS else .agR,
      Fin.ofNat 2 ((x - 3) / 6), Fin.ofNat 3 ((x - 3) / 2), Fin.ofNat 2 (x - 3))
  else none

/-- What a cell's semaphore is in the exchange. -/
def roleOf : SemLoc sig → Option Ix
  | .dma x => kindOf x.val
  | .reg _ => none

theorem roleOf_ix : ∀ i : Ix, roleOf (.dma (ixSem i)) = some i := by decide +kernel

abbrev barCell (c : Dev nD) : GSem nD τ sig := ((c : Thread nD τ), .reg barS)
abbrev ixCell (c : Dev nD) (i : Ix) : GSem nD τ sig := ((c : Thread nD τ), .dma (ixSem i))

/-- A slice's credit: what a copy of it pays. -/
abbrev N : ℕ := (slotM 0 0 0).view.dmaCredit
theorem N_pos : 0 < N := View.dmaCredit_pos _ (by decide)

/-! ## The schedule -/

/-- What a copy's completion hands back: its source at a send semaphore, what landed at a receive semaphore. -/
def pay (c : Dev nD) : Ix → sProp 𝕄
  | (.rsS, d, s, j) => ownsTc c (cellM d (snd d c s.castSucc) j) fullShare (acc A d j s.val c)
  | (.rsR, d, s, j) => ownsTc c (slotM d s j) fullShare (acc A d j s.val (fromDev d c))
  | (.agS, d, h, j) => ownsTc c (rowsM (own d (up d h.val c)) d j) fullShare (prod A B d j (up d h.val c))
  | (.agR, d, h, j) => ownsTc c (rowsM (own d (up d (h.val + 1) c)) d j) fullShare (prod A B d j (up d (h.val + 1) c))

/-- A slice at some contents. -/
abbrev some_ (c : Dev nD) (M : Memref sig .tc .vmem S128x1024 .bf16) : sProp 𝕄 :=
  iprop(∃ X : Vec F S128x1024 .bf16, ownsTc c M fullShare X)

/-- What the device direction `d` writes to hands device `x`: the slots and the rows `x` will write. -/
def barPay (x : Dev nD) (d : Fin 2) : sProp 𝕄 :=
  bigSep (Finset.univ : Finset (Fin 3 × Fin 2)) fun t => iprop(some_ (toDev d x) (slotM d t.1 t.2)
    ∗ some_ (toDev d x) (rowsM (own d (up d (t.1.val + 1) (toDev d x))) d t.2))

instance pay_storable (c : Dev nD) (i : Ix) : BI.Storable (upEmb : UEmb _ 𝕄) (pay A B c i) := by
  obtain ⟨k, d, s, j⟩ := i
  cases k <;> (dsimp only [pay]; infer_instance)
instance barPay_storable (x : Dev nD) (d : Fin 2) : BI.Storable (upEmb : UEmb _ 𝕄) (barPay (F := F) x d) := by
  unfold barPay; infer_instance

def ringRd : Rounds.Schedule (GSem nD τ sig) (Fin 2) 𝕄 where
  duties g r := if r = 0 ∧ g.1.2 = .tc then
      (if g.2 = .reg barS then Finset.univ else if (roleOf g.2).isSome then {0} else ∅) else ∅
  unitless _ := False
  amount g _ _ := if g.2 = .reg barS then 1 else N
  payload g _ d := if g.2 = .reg barS then barPay g.1.1 d else
    match roleOf g.2 with
    | some i => pay A B g.1.1 i
    | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 2) :
    BI.Storable (upEmb : UEmb _ 𝕄) ((ringRd A B).payload g r d) := by
  show BI.Storable upEmb (if g.2 = .reg barS then barPay g.1.1 d else
    match roleOf g.2 with
    | some i => pay A B g.1.1 i
    | none => iprop(emp))
  split
  · infer_instance
  · split <;> infer_instance

theorem dma_ne_bar (x : DmaSem sig) : (SemLoc.dma x : SemLoc sig) ≠ .reg barS := fun h => by cases h

theorem duties_bar (c : Dev nD) : (ringRd A B).duties (barCell c) 0 = Finset.univ := by
  dsimp only [ringRd]; rw [if_pos ⟨rfl, rfl⟩, if_pos rfl]
theorem duties_ix (c : Dev nD) (i : Ix) : (ringRd A B).duties (ixCell c i) 0 = {0} := by
  dsimp only [ringRd]; rw [if_pos ⟨rfl, rfl⟩, if_neg (dma_ne_bar _), roleOf_ix]; rfl
theorem duties_later (g : GSem nD τ sig) : ∀ r, 1 ≤ r → (ringRd A B).duties g r = ∅ :=
  fun r hr => by dsimp only [ringRd]; rw [if_neg fun h => by omega]
theorem amount_bar (c : Dev nD) (d : Fin 2) : (ringRd A B).amount (barCell c) 0 d = 1 := by
  dsimp only [ringRd]; exact if_pos rfl
theorem amount_ix (c : Dev nD) (i : Ix) (d : Fin 2) : (ringRd A B).amount (ixCell c i) 0 d = N := by
  dsimp only [ringRd]; exact if_neg (dma_ne_bar _)
theorem expect_bar (c : Dev nD) : (ringRd A B).expect (barCell c) 0 = 2 := by
  unfold Schedule.expect Schedule.amountOf
  rw [duties_bar, Finset.sum_congr rfl fun d _ => amount_bar A B c d]; rfl
theorem expect_ix (c : Dev nD) (i : Ix) : (ringRd A B).expect (ixCell c i) 0 = N := by
  unfold Schedule.expect Schedule.amountOf; rw [duties_ix, Finset.sum_singleton, amount_ix]
theorem payload_bar (c : Dev nD) (d : Fin 2) : (ringRd A B).payload (barCell c) 0 d = barPay c d := by
  dsimp only [ringRd]; rw [if_pos rfl]
theorem payload_ix (c : Dev nD) (i : Ix) (d : Fin 2) : (ringRd A B).payload (ixCell c i) 0 d = pay A B c i := by
  dsimp only [ringRd]; rw [if_neg (dma_ne_bar _), roleOf_ix]
theorem rest_bar (c : Dev nD) : bigSep ((ringRd A B).duties (barCell c) 0 \ ∅)
    (fun d => (ringRd A B).payload (barCell c) 0 d) = iprop(barPay c 0 ∗ barPay c 1) := by
  rw [Finset.sdiff_empty, duties_bar, bigSep_univ_eq_bigSepL [0, 1] (by decide) (by decide), bigSepL_cons_cons,
    bigSepL_singleton, payload_bar, payload_bar]
  rfl
theorem rest_ix (c : Dev nD) (i : Ix) : bigSep ((ringRd A B).duties (ixCell c i) 0 \ ∅)
    (fun d => (ringRd A B).payload (ixCell c i) 0 d) = pay A B c i := by
  rw [Finset.sdiff_empty, duties_ix, bigSep_singleton, payload_ix]

end Contents

/-! ## What is owed, and the levels -/

/-- A copy this device still has to start: a reduce step's or a gather step's. -/
structure Send where
  gather : Bool
  s : Fin 3
  j : Fin 2
  d : Fin 2
  deriving DecidableEq

abbrev Send.rcv (x : Send) : Ix := (if x.gather then .agR else .rsR, x.d, x.s, x.j)

/-- The credit owed for the copies still to be started. -/
def owed (c : Dev nD) : List Send → CellTallies nD τ sig Unit
  | [] => 0
  | x :: l => owed c l + tallyAt (ixCell (toDev x.d c) x.rcv) () N

def L (g : GSem nD τ sig) : Finset Unit := if g.1.2 = .tc then {()} else ∅

def ixLev : Ix → ℕ
  | (.rsR, _, s, _) => 2 + s.val
  | (.agR, _, h, _) => 5 + h.val
  | _ => 0

/-- The barrier is below the reduce steps' arrivals, those below the gather steps'. -/
def lv (g : GSem nD τ sig) (_ : Unit) : ℕ := if g.2 = .reg barS then 1 else (roleOf g.2).elim 0 ixLev

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_ix (c : Dev nD) (i : Ix) : lv (ixCell c i) () = ixLev i := by
  unfold lv; rw [if_neg (dma_ne_bar _), roleOf_ix]; rfl

theorem owed_pos (c : Dev nD) {g : GSem nD τ sig} {u : Unit} : ∀ {l : List Send}, 0 < owed c l g u →
    ∃ x ∈ l, g = ixCell (toDev x.d c) x.rcv
  | [], h => absurd h (Nat.lt_irrefl 0)
  | x :: l, h => by
    unfold owed at h
    rw [Pi.add_apply, Finsupp.add_apply, tallyAt_apply] at h
    by_cases hg : g = ixCell (toDev x.d c) x.rcv ∧ u = ()
    · exact ⟨x, List.mem_cons_self, hg.1⟩
    · rw [if_neg hg, add_zero] at h
      obtain ⟨y, hy, e⟩ := owed_pos c h
      exact ⟨y, List.mem_cons_of_mem _ hy, e⟩

/-- A wait below everything still owed may block. -/
theorem mayWait (c : Dev nD) (sm : SemLoc sig) (l : List Send)
    (h : ∀ x ∈ l, lv ((c : Thread nD τ), sm) () < ixLev x.rcv) :
    (levAts L lv : sProp 𝕄) ⊢ MayWait (c : Thread nD τ) sm () (owed c l) :=
  MayOwe.of_cut (L := L) (lev := lv) (lv ((c : Thread nD τ), sm) ())
    (fun p hp => by rw [Finset.mem_singleton.mp hp, L_tc]; exact Finset.mem_singleton_self _)
    (fun g u hg => by
      obtain ⟨x, -, rfl⟩ := owed_pos c hg
      rw [L_tc]; exact Finset.mem_singleton_self _)
    (fun p hp => by rw [Finset.mem_singleton.mp hp])
    (fun g u hg => by
      obtain ⟨x, hx, rfl⟩ := owed_pos c hg
      rw [lv_ix]; exact h x hx)

end Cert.KernelIdeal.Ring

end
-- ==== Proof.Mem.lean ====
/- Loads and stores on a slice, and the rules of the exchange's operations.

   Each rule takes what its operation needs of the device's holdings and gives what it leaves; the
   slices are owned at their contents. -/
module

public import proofs.«01_k».proof.Proof.Proto

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's program run to `Q`. -/
abbrev run (c : Dev nD) (p : Pr F) (Q : PUnit → sProp 𝕄) : sProp 𝕄 :=
  wp frame (wpE (defs₀ (F := F)) 𝒱₀ (c : Thread nD τ) none) Set.univ p Q

section Access

variable {s s' : Shape} {e : EltTy} (M : Memref sig .tc .vmem s e) (r : Rect s) (hr : ∀ a, r.stride a = 1)

/-- A load through the rectangle whose slice is owned reads the slice's contents. -/
theorem run_load (c : Dev nD) {hl : M.view.LoadsAt r.toLoadRect} (X : r.shape.Idx → Elt F e)
    (k : (r.shape.Idx → Elt F e) → Pr F) (Q : PUnit → sProp 𝕄) :
    ownsTc c (M.slice r hr) fullShare X
      ⊢ iprop((ownsTc c (M.slice r hr) fullShare X -∗ run c (k X) Q)
        -∗ run c (.op (.load M r.toLoadRect hl) k) Q) := by
  unfold ownsTc owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f; isplitr
  · ipureintro; exact hf
  · iexact H

/-- A store through it leaves the slice holding what was stored. -/
theorem run_store (c : Dev nD) {w : r.shape.Idx → Elt F e} {hx : (M.access r).Stores Finset.univ}
    {hm : (Finset.univ : Finset r.shape.Idx) = Finset.univ ∨ ∀ a, r.stride a = 1} (X : r.shape.Idx → Elt F e)
    (k : PUnit → Pr F) (Q : PUnit → sProp 𝕄) :
    ownsTc c (M.slice r hr) fullShare X
      ⊢ iprop((ownsTc c (M.slice r hr) fullShare w -∗ run c (k ⟨⟩) Q)
        -∗ run c (.op (.store M r w Finset.univ hx hm) k) Q) := by
  unfold ownsTc owns
  iintro ⟨%f, %hf, H⟩ Hk
  iapply (wp_store 𝒱₀ (c : Thread nD τ) none Set.univ (m := M) (r := r) (Mk := Finset.univ)
    (S := (M.access r).set) (f := f) (show (M.access r).set ⊆ (M.access r).set from Finset.Subset.refl _)) $$ H
  iintro H
  iapply Hk
  iexists ((M.access r).write (Elt F) f w Finset.univ); isplitr
  · ipureintro; exact View.read_write_univ _ _
  · iexact H

variable (hq : r.shape.Squeezes s') (hc : r.shape.ShapeCasts s') (hc' : s'.ShapeCasts r.shape)

include hc in
/-- A squeezed slice is the slice, its contents cast. -/
theorem owns_squeeze (c : Dev nD) (X : s'.Idx → Elt F e) :
    (ownsTc c ((M.slice r hr).squeeze s' hq) fullShare X : sProp 𝕄)
      = ownsTc c (M.slice r hr) fullShare (shapeCast r.shape X hc') := by
  have hp (f : M.view.ty.Contents (Elt F)) : (((M.slice r hr).squeeze s' hq).view.read (Elt F) f = X)
      = ((M.slice r hr).view.read (Elt F) f = shapeCast r.shape X hc') := propext
    ⟨fun h => by rw [← h]; exact (shapeCast_shapeCast _ hc hc').symm,
      fun h => by
        show shapeCast s' ((M.slice r hr).view.read (Elt F) f) hc = X
        rw [h]; exact shapeCast_shapeCast _ hc' hc⟩
  unfold ownsTc owns
  refine congrArg _ (funext fun f => ?_)
  rw [hp f]
  exact congrArg (fun S => iprop(_ ∗ (M.view.loc (c : Thread nD τ) ↦[S]{fullShare} f))) (View.set_reshape _ _)

/-- A load through a rectangle of a memref owned as a whole reads its part of the contents. -/
theorem run_load_part (c : Dev nD) {hl : M.view.LoadsAt r.toLoadRect} (X : s.Idx → Elt F e)
    (k : (r.shape.Idx → Elt F e) → Pr F) (Q : PUnit → sProp 𝕄) :
    ownsTc c M fullShare X
      ⊢ iprop((ownsTc c M fullShare X -∗ run c (k (fun i => X (r.emb i))) Q)
        -∗ run c (.op (.load M r.toLoadRect hl) k) Q) := by
  unfold ownsTc owns
  iintro ⟨%f, %hf, H⟩ Hk
  iapply (wp_load_rect 𝒱₀ (c : Thread nD τ) none Set.univ (m := M) (r := r) (View.set_slice_subset _ _)) $$ H
  iintro H
  rw [show (M.access r).read (Elt F) f = fun i => X (r.emb i) by rw [← hf]; rfl]
  iapply Hk
  iexists f; isplitr
  · ipureintro; exact hf
  · iexact H

end Access

/-! ## The exchange's slices -/

section Slices

theorem owns_cell (c : Dev nD) (d : Fin 2) (q : Fin 4) (j : Fin 2) (X : Vec F S128x1024 .bf16) :
    (ownsTc c (cellM d q j) fullShare X : sProp 𝕄)
      = ownsTc c ((bufM d).slice (stRect q j) (fun _ => rfl)) fullShare
          (shapeCast S1x1x128x1024 X shapeCasts_S128x1024_S1x1x128x1024) :=
  owns_squeeze _ _ _ _ shapeCasts_S1x1x128x1024_S128x1024 shapeCasts_S128x1024_S1x1x128x1024 c X

theorem slotCasts : S128x1024.ShapeCasts S1x1x1x128x1024 := shapeCasts_S1x1x1x128x1024_S128x1024.symm

theorem owns_slot (c : Dev nD) (d : Fin 2) (s : Fin 3) (j : Fin 2) (X : Vec F S128x1024 .bf16) :
    (ownsTc c (slotM d s j) fullShare X : sProp 𝕄)
      = ownsTc c (rM.slice (rRect d s j) (fun _ => rfl)) fullShare
          (shapeCast S1x1x1x128x1024 X slotCasts) :=
  owns_squeeze _ _ _ _ shapeCasts_S1x1x1x128x1024_S128x1024 _ c X

variable (c : Dev nD)

theorem run_load_cell {d : Fin 2} {q : Fin 4} {j : Fin 2} {o : Fin 4 → ℕ} (h : o = stOff q j)
    {hi : ∀ a, o a + S1x1x128x1024.size a ≤ S4x2x128x1024.size a}
    {hl : (bufM d).view.LoadsAt (Rect.unit (s := S4x2x128x1024) o S1x1x128x1024.size hi).toLoadRect}
    (X : Vec F S128x1024 .bf16) (k : Vec F S1x1x128x1024 .bf16 → Pr F) (Q : PUnit → sProp 𝕄) :
    ownsTc c (cellM d q j) fullShare X
      ⊢ iprop((ownsTc c (cellM d q j) fullShare X
          -∗ run c (k (shapeCast S1x1x128x1024 X shapeCasts_S128x1024_S1x1x128x1024)) Q)
        -∗ run c (.op (.load (bufM d) (Rect.unit (s := S4x2x128x1024) o S1x1x128x1024.size hi).toLoadRect hl) k) Q) := by
  subst h; rw [owns_cell]; exact run_load _ _ _ c _ _ _

theorem run_store_cell {d : Fin 2} {q : Fin 4} {j : Fin 2} {o : Fin 4 → ℕ} (h : o = stOff q j)
    {hi : ∀ a, o a + S1x1x128x1024.size a ≤ S4x2x128x1024.size a} {w : Vec F S1x1x128x1024 .bf16}
    {hx : ((bufM d).access (Rect.unit (s := S4x2x128x1024) o S1x1x128x1024.size hi)).Stores Finset.univ}
    {hm : (Finset.univ : Finset S1x1x128x1024.Idx) = Finset.univ
      ∨ ∀ a, (Rect.unit (s := S4x2x128x1024) o S1x1x128x1024.size hi).stride a = 1}
    (X Y : Vec F S128x1024 .bf16) (hw : w = shapeCast S1x1x128x1024 Y shapeCasts_S128x1024_S1x1x128x1024)
    (k : PUnit → Pr F) (Q : PUnit → sProp 𝕄) :
    ownsTc c (cellM d q j) fullShare X
      ⊢ iprop((ownsTc c (cellM d q j) fullShare Y -∗ run c (k ⟨⟩) Q)
        -∗ run c (.op (.store (bufM d) (Rect.unit (s := S4x2x128x1024) o S1x1x128x1024.size hi) w Finset.univ hx hm) k) Q) := by
  subst h hw; rw [owns_cell, owns_cell]; exact run_store _ _ _ c _ _ _

theorem run_load_slot {d : Fin 2} {s : Fin 3} {j : Fin 2} {hl : rM.view.LoadsAt (rRect d s j).toLoadRect}
    (X : Vec F S128x1024 .bf16) (k : Vec F S1x1x1x128x1024 .bf16 → Pr F) (Q : PUnit → sProp 𝕄) :
    ownsTc c (slotM d s j) fullShare X
      ⊢ iprop((ownsTc c (slotM d s j) fullShare X -∗ run c (k (shapeCast S1x1x1x128x1024 X slotCasts)) Q)
        -∗ run c (.op (.load rM (rRect d s j).toLoadRect hl) k) Q) := by
  rw [owns_slot]; exact run_load _ _ _ c _ _ _

theorem run_load_rows {q : Fin 4} {d j : Fin 2} {o : Fin 2 → ℕ} (h : o = tOff q d j)
    {hi : ∀ a, o a + S128x1024.size a ≤ S2048x1024.size a}
    {hl : oM.view.LoadsAt (Rect.unit (s := S2048x1024) o S128x1024.size hi).toLoadRect}
    (X : Vec F S128x1024 .bf16) (k : Vec F S128x1024 .bf16 → Pr F) (Q : PUnit → sProp 𝕄) :
    ownsTc c (rowsM q d j) fullShare X
      ⊢ iprop((ownsTc c (rowsM q d j) fullShare X -∗ run c (k X) Q)
        -∗ run c (.op (.load oM (Rect.unit (s := S2048x1024) o S128x1024.size hi).toLoadRect hl) k) Q) := by
  subst h; exact run_load _ _ _ c _ _ _

theorem run_store_rows {q : Fin 4} {d j : Fin 2} {o : Fin 2 → ℕ} (h : o = tOff q d j)
    {hi : ∀ a, o a + S128x1024.size a ≤ S2048x1024.size a} {w : Vec F S128x1024 .bf16}
    {hx : (oM.access (Rect.unit (s := S2048x1024) o S128x1024.size hi)).Stores Finset.univ}
    {hm : (Finset.univ : Finset S128x1024.Idx) = Finset.univ
      ∨ ∀ a, (Rect.unit (s := S2048x1024) o S128x1024.size hi).stride a = 1}
    (X : Vec F S128x1024 .bf16) (k : PUnit → Pr F) (Q : PUnit → sProp 𝕄) :
    ownsTc c (rowsM q d j) fullShare X
      ⊢ iprop((ownsTc c (rowsM q d j) fullShare w -∗ run c (k ⟨⟩) Q)
        -∗ run c (.op (.store oM (Rect.unit (s := S2048x1024) o S128x1024.size hi) w Finset.univ hx hm) k) Q) := by
  subst h; exact run_store _ _ _ c _ _ _

/-- The rectangle of the whole weights. -/
theorem wRect_emb (i : S1024x1024.Idx) : wRect.emb i = i := by
  refine funext fun a => Fin.ext ?_
  show (![0, 0] : Fin 2 → ℕ) a + 1 * (i a).val = (i a).val
  fin_cases a <;> simp

theorem run_load_w {M : Memref sig .tc .vmem S1024x1024 .bf16} {hl : M.view.LoadsAt wRect.toLoadRect}
    (X : Vec F S1024x1024 .bf16) (k : Vec F S1024x1024 .bf16 → Pr F) (Q : PUnit → sProp 𝕄) :
    ownsTc c M fullShare X
      ⊢ iprop((ownsTc c M fullShare X -∗ run c (k X) Q) -∗ run c (.op (.load M wRect.toLoadRect hl) k) Q) := by
  have h := run_load_part M wRect c (hl := hl) X k Q
  rwa [show (fun i => X (wRect.emb i)) = X from funext fun i => congrArg X (wRect_emb i)] at h

theorem run_store_w (M : Memref sig .tc .vmem S1024x1024 .bf16) {w : Vec F S1024x1024 .bf16}
    {hx : (M.access wRect).Stores Finset.univ}
    {hm : (Finset.univ : Finset S1024x1024.Idx) = Finset.univ ∨ ∀ a, wRect.stride a = 1} (X : Vec F S1024x1024 .bf16)
    (k : PUnit → Pr F) (Q : PUnit → sProp 𝕄) :
    ownsTc c M fullShare X
      ⊢ iprop((ownsTc c M fullShare w -∗ run c (k ⟨⟩) Q)
        -∗ run c (.op (.store M wRect w Finset.univ hx hm) k) Q) := by
  unfold ownsTc owns
  iintro ⟨%f, %hf, H⟩ Hk
  iapply (wp_store 𝒱₀ (c : Thread nD τ) none Set.univ (m := M) (r := wRect) (Mk := Finset.univ)
    (S := M.view.set) (f := f) (show (M.access wRect).set ⊆ M.view.set from View.set_slice_subset _ _)) $$ H
  iintro H
  iapply Hk
  iexists ((M.access wRect).write (Elt F) f w Finset.univ); isplitr
  · ipureintro
    funext i
    have h := congrFun (View.read_write_univ (v := M.access wRect) (Val := Elt F) f w) i
    rw [← h]
    exact congrArg (M.view.read (Elt F) _) (wRect_emb i).symm
  · iexact H

end Slices

/-! ## Copies -/

section Copies

variable (A : Dev nD → Vec F S2048x1024 .bf16) (B : Dev nD → Vec F S1024x1024 .bf16)

/-- A device's cells: the barrier's and its copy semaphores'. -/
abbrev kcell (p : Dev nD × Option Ix) : GSem nD τ sig := p.2.elim (barCell p.1) (ixCell p.1)

variable (K : Dev nD × Option Ix → ℕ)

/-- What every device knows throughout: the levels, every cell's invariant, every cell at round 0. -/
def ctx : sProp 𝕄 :=
  iprop(levAts L lv ∗ bigSep (Finset.univ : Finset (Dev nD × Option Ix)) fun p =>
    iprop(cellInv ER (ringRd A B) (K p) (kcell p) ∗ reached ER (kcell p) 0))

instance ctx_persistent : BI.Persistent (ctx A B K) := by unfold ctx; infer_instance

theorem ctx_lev : ctx A B K ⊢ levAts L lv := by
  unfold ctx; iintro ⟨H, -⟩; iexact H
theorem ctx_cell (p : Dev nD × Option Ix) :
    ctx A B K ⊢ iprop(cellInv ER (ringRd A B) (K p) (kcell p) ∗ reached ER (kcell p) 0) := by
  have h : (bigSep (Finset.univ : Finset (Dev nD × Option Ix)) fun p =>
      iprop(cellInv ER (ringRd A B) (K p) (kcell p) ∗ reached ER (kcell p) 0) : sProp 𝕄)
      ⊢ iprop(cellInv ER (ringRd A B) (K p) (kcell p) ∗ reached ER (kcell p) 0) := bigSep_elim (Finset.mem_univ p)
  unfold ctx; iintro ⟨-, H⟩; iapply h $$ H

/-- The device still owes the copies of `l`. -/
def ow (c : Dev nD) (l : List Send) : sProp 𝕄 := iprop(∃ W, owes (c : Thread nD τ) (owed c l) W)

/-- A wait on a copy semaphore gives what the copy hands back, and closes the cell. -/
theorem run_wait (c : Dev nD) (i : Ix) (l : List Send) (hl : ∀ x ∈ l, ixLev i < ixLev x.rcv)
    {src dst : Memref sig .tc .vmem S128x1024 .bf16} {hs : src.view.WordExact} {hd : dst.view.WordExact}
    (k : PUnit → Pr F) (Q : PUnit → sProp 𝕄) :
    iprop(ctx A B K ∗ atPos ER (ixCell c i) 0 ∅ 0 ∗ cred (tallyAt (ixCell c i) () N) ∗ ow c l)
      ⊢ iprop((pay A B c i ∗ semVal (ixCell c i) 0 ∗ ow c l -∗ run c (k ⟨⟩) Q)
        -∗ run c (.op (.waitDma2 (ixSem i) src dst hs hd) k) Q) := by
  unfold ow
  iintro ⟨#Hctx, Hat, Hc, ⟨%W, Ho⟩⟩ Hk
  ihave ⟨#Hinv, -⟩ := (ctx_cell A B K (c, some i)) $$ Hctx
  iapply (Rounds.wp_wait_rest_token 𝒱₀ ER (ringRd A B) (c : Thread nD τ) none (κ := K (c, some i))
      (wpE_waitDma2_eq 𝒱₀ (c : Thread nD τ) none Set.univ) (Set.mem_univ _) () (O := owed c l) (W := W) (R := 0) (m := 0) (T := ∅)
      (by rw [Nat.zero_add, expect_ix])) $$ [Hc Ho Hat]
  · isplitr; · iexact Hinv
    isplitl [Hc]; · iexact Hc
    isplitl [Ho]; · iexact Ho
    isplitr
    · iapply (mayWait c _ l (fun x hx => by rw [lv_ix]; exact hl x hx))
      iapply (ctx_lev A B K); iexact Hctx
    iexact Hat
  iintro ⟨Ho, Hat, -, Hp⟩
  ihave Hp := (Entails.of_eq (rest_ix A B c i)) $$ Hp
  imod (Rounds.cell_close ER (ringRd A B) (Set.mem_univ (K (c, some i))) (fun h => h) (R := 0 + 1)
    (duties_later A B (ixCell c i))) $$ [Hat] with Hz
  · isplitr; · iexact Hinv
    iexact Hat
  iapply Hk
  isplitl [Hp]; · iexact Hp
  isplitl [Hz]; · iexact Hz
  iexists _; iexact Ho

/-- Starting a copy: its source and destination go with it, and its credit is paid. -/
theorem run_send (c n : Dev nD) (x : Send) (hn : n = toDev x.d c) (is : Ix) (l : List Send)
    {src dst : Memref sig .tc .vmem S128x1024 .bf16} (X : Vec F S128x1024 .bf16)
    {src' dst' : Memref sig .tc .vmem S128x1024 .bf16} (hsrc : src' = src) (hdst : dst' = dst)
    (hp₁ : pay A B c is = ownsTc c src fullShare X)
    (hp₂ : pay A B (toDev x.d c) x.rcv = ownsTc (toDev x.d c) dst fullShare X)
    {hsc : dst'.view.ref.isScScratch = false} {hs : src'.view.WordExact} {hd : dst'.view.WordExact}
    {ht : DmaTarget.Typed .vmem (.dma (ixSem x.rcv)) (.remote (Dev.tc n : Thread nD τ) dst' (.dma (ixSem is)) hsc)}
    (hN : dst.view.amount (.dma (ixSem x.rcv)) = N) (k : PUnit → Pr F) (Q : PUnit → sProp 𝕄) :
    iprop(ctx A B K ∗ ownsTc c src fullShare X ∗ some_ (toDev x.d c) dst
        ∗ dutyTok ER (ixCell c is) 0 0 ∗ dutyTok ER (ixCell (toDev x.d c) x.rcv) 0 0 ∗ ow c (x :: l))
      ⊢ iprop((cred (tallyAt (ixCell c is) () N) ∗ ow c l -∗ run c (k ⟨⟩) Q)
        -∗ run c (.op (.enqueueDma src' (.remote (Dev.tc n : Thread nD τ) dst' (.dma (ixSem is)) hsc)
          (.dma (ixSem x.rcv)) hs hd ht) k) Q) := by
  subst hn hsrc hdst
  unfold ow some_
  iintro ⟨#Hctx, Hs, ⟨%Y, Hd⟩, Ht₁, Ht₂, ⟨%W, Ho⟩⟩ Hk
  ihave ⟨#Hi₁, #Hr₁⟩ := (ctx_cell A B K (c, some is)) $$ Hctx
  ihave ⟨#Hi₂, #Hr₂⟩ := (ctx_cell A B K (toDev x.d c, some x.rcv)) $$ Hctx
  unfold ownsTc owns
  icases Hs with ⟨%fs, %hfs, Hs⟩
  icases Hd with ⟨%fd, %hfd, Hd⟩
  iapply (Rounds.wp_send_pointsTo 𝒱₀ ER (ringRd A B) (c : Thread nD τ) none (κ₁ := K (c, some is))
    (κ₂ := K (toDev x.d c, some x.rcv)) (r₁ := 0) (r₂ := 0) (d₁ := 0) (d₂ := 0) (fd := fd) (fs := fs) (q := fullShare)
    (by rw [duties_ix]; exact Finset.mem_singleton_self _) (by rw [duties_ix]; exact Finset.mem_singleton_self _)
    () () N hN (amount_ix A B c is 0) (amount_ix A B (toDev x.d c) x.rcv 0) (owed c l) rfl (W := W)
    (by
      rw [payload_ix, hp₁, ← hfs]; exact owns_intro _ _ _ _)
    (by
      rw [payload_ix, hp₂, ← hfs]
      refine (owns_intro _ _ _ _).trans (Entails.of_eq (congrArg _ ?_))
      exact View.read_write_univ _ _)) $$ [Hs Hd Ho Ht₁ Ht₂]
  · isplitr; · iexact Hi₁
    isplitr; · iexact Hi₂
    isplitl [Hs]; · iexact Hs
    isplitl [Hd]; · iexact Hd
    isplitl [Ho]; · iexact Ho
    isplitl [Ht₁]; · iexact Ht₁
    isplitr; · iexact Hr₁
    isplitl [Ht₂]; · iexact Ht₂
    iexact Hr₂
  iintro ⟨Hc, Ho⟩
  iapply Hk
  isplitl [Hc]; · iexact Hc
  iexists W; iexact Ho

end Copies

end Cert.KernelIdeal.Ring

end
-- ==== Proof.State.lean ====
/- What a device holds between two operations, and each operation's rule.

   A device's holdings are five families, one entry for each slice or copy, each entry in one of a few
   conditions. An operation moves two or three entries from one condition to the next. -/
module

public import proofs.«01_k».proof.Proof.Mem

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

theorem sep_out {I : Type} [Fintype I] [DecidableEq I] (Φ : I → sProp 𝕄) (k : I) :
    bigSep Finset.univ Φ = iprop(Φ k ∗ bigSep (Finset.univ.erase k) Φ) := bigSep_erase (Finset.mem_univ k)

/-- One entry of a family taken out, to be put back in another condition. -/
theorem family_move {I : Type} [Fintype I] [DecidableEq I] (C : I → ℕ → sProp 𝕄) (f : I → ℕ) (k : I) {n : ℕ}
    (h : f k = n) (v : ℕ) {P R : sProp 𝕄} (hP : C k n ⊢ P) (hR : R ⊢ C k v) :
    (bigSep Finset.univ fun i => C i (f i)) ⊢ iprop(P
      ∗ (R -∗ bigSep Finset.univ fun i => C i (Function.update f k v i))) := by
  subst h
  rw [sep_out (fun i => C i (f i)) k]
  iintro ⟨H, Hr⟩
  isplitl [H]; · iapply hP; iexact H
  iintro Hv
  ihave Hv := hR $$ Hv
  rw [sep_out (fun i => C i (Function.update f k v i)) k, Function.update_self,
    bigSep_congr (s := Finset.univ.erase k) (Φ := fun i => C i (Function.update f k v i)) (Ψ := fun i => C i (f i))
      (fun i hi => by rw [Function.update_of_ne (Finset.ne_of_mem_erase hi)])]
  isplitl [Hv]; · iexact Hv
  iexact Hr

/-- The index of a copy: direction, step, sub-slice. -/
abbrev T3 := Fin 2 × Fin 3 × Fin 2
/-- The index of a slice: direction, step at which it is dealt with, sub-slice. -/
abbrev T4 := Fin 2 × Fin 4 × Fin 2

section Conditions

variable (A : Dev nD → Vec F S2048x1024 .bf16) (B : Dev nD → Vec F S1024x1024 .bf16) (c : Dev nD)

/-- A slice of the exchange buffers: unwritten, staged, complete, away, returned. -/
def cellC (k : T4) : ℕ → sProp 𝕄
  | 0 => some_ c (cellM k.1 (snd k.1 c k.2.1) k.2.2)
  | 1 => ownsTc c (cellM k.1 (snd k.1 c k.2.1) k.2.2) fullShare (slab A c k.1 (snd k.1 c k.2.1) k.2.2)
  | 2 => ownsTc c (cellM k.1 (snd k.1 c k.2.1) k.2.2) fullShare (acc A k.1 k.2.2 k.2.1.val c)
  | 3 => iprop(emp)
  | _ => some_ c (cellM k.1 (snd k.1 c k.2.1) k.2.2)

/-- A reduce step's copy: to be started, in flight, arrived, over. -/
def rsC (k : T3) : ℕ → sProp 𝕄
  | 0 => iprop(dutyTok ER (ixCell c (.rsS, k)) 0 0 ∗ dutyTok ER (ixCell (toDev k.1 c) (.rsR, k)) 0 0
      ∗ some_ (toDev k.1 c) (slotM k.1 k.2.1 k.2.2)
      ∗ atPos ER (ixCell c (.rsR, k)) 0 ∅ 0 ∗ cred (tallyAt (ixCell c (.rsR, k)) () N) ∗ atPos ER (ixCell c (.rsS, k)) 0 ∅ 0)
  | 1 => iprop(atPos ER (ixCell c (.rsR, k)) 0 ∅ 0 ∗ cred (tallyAt (ixCell c (.rsR, k)) () N)
      ∗ atPos ER (ixCell c (.rsS, k)) 0 ∅ 0 ∗ cred (tallyAt (ixCell c (.rsS, k)) () N))
  | 2 => iprop(some_ c (slotM k.1 k.2.1 k.2.2) ∗ semVal (ixCell c (.rsR, k)) 0
      ∗ atPos ER (ixCell c (.rsS, k)) 0 ∅ 0 ∗ cred (tallyAt (ixCell c (.rsS, k)) () N))
  | _ => iprop(some_ c (slotM k.1 k.2.1 k.2.2) ∗ semVal (ixCell c (.rsR, k)) 0 ∗ semVal (ixCell c (.rsS, k)) 0)

/-- A block of the result's rows: not there yet, complete, away. -/
def rowC (k : T4) : ℕ → sProp 𝕄
  | 0 => if k.2.1 = 0 then some_ c (rowsM (own k.1 c) k.1 k.2.2) else iprop(emp)
  | 1 => ownsTc c (rowsM (own k.1 (up k.1 k.2.1.val c)) k.1 k.2.2) fullShare (prod A B k.1 k.2.2 (up k.1 k.2.1.val c))
  | _ => iprop(emp)

/-- A gather step's copy: to be started, in flight, arrived, over. -/
def agC (k : T3) : ℕ → sProp 𝕄
  | 0 => iprop(dutyTok ER (ixCell c (.agS, k)) 0 0 ∗ dutyTok ER (ixCell (toDev k.1 c) (.agR, k)) 0 0
      ∗ some_ (toDev k.1 c) (rowsM (own k.1 (up k.1 k.2.1.val c)) k.1 k.2.2)
      ∗ atPos ER (ixCell c (.agR, k)) 0 ∅ 0 ∗ cred (tallyAt (ixCell c (.agR, k)) () N) ∗ atPos ER (ixCell c (.agS, k)) 0 ∅ 0)
  | 1 => iprop(atPos ER (ixCell c (.agR, k)) 0 ∅ 0 ∗ cred (tallyAt (ixCell c (.agR, k)) () N)
      ∗ atPos ER (ixCell c (.agS, k)) 0 ∅ 0 ∗ cred (tallyAt (ixCell c (.agS, k)) () N))
  | 2 => iprop(semVal (ixCell c (.agR, k)) 0
      ∗ atPos ER (ixCell c (.agS, k)) 0 ∅ 0 ∗ cred (tallyAt (ixCell c (.agS, k)) () N))
  | _ => iprop(semVal (ixCell c (.agR, k)) 0 ∗ semVal (ixCell c (.agS, k)) 0)

/-- The weights and their copy: not copied yet, copied. -/
def wC : ℕ → sProp 𝕄
  | 0 => iprop(ownsTc c wM fullShare (B c) ∗ ∃ X, ownsTc c wbM fullShare X)
  | _ => iprop(ownsTc c wM fullShare (B c) ∗ ownsTc c wbM fullShare (B c))

end Conditions

/-! ## The state and its moves -/

/-- The condition of every entry and the copies still to be started. -/
structure St where
  cell : T4 → ℕ
  rs : T3 → ℕ
  row : T4 → ℕ
  ag : T3 → ℕ
  w : ℕ
  todo : List Send

/-- What an operation needs of the state. -/
def pre (c : Dev nD) (σ : St) : Op → Bool
  | .bar => false
  | .stage q j d => σ.cell (d, stepOf d c q, j) = 0
  | .wcopy => σ.w = 0
  | .rsSend s j d => σ.cell (d, s.castSucc, j) = 2 ∧ σ.rs (d, s, j) = 0 ∧ σ.todo.head? = some ⟨false, s, j, d⟩
  | .acc s j d => σ.rs (d, s, j) = 1 ∧ σ.cell (d, s.succ, j) = 1 ∧ ∀ x ∈ σ.todo, 2 + s.val < ixLev x.rcv
  | .mm j d => σ.cell (d, 3, j) = 2 ∧ σ.w = 1 ∧ σ.row (d, 0, j) = 0
  | .agSend h j d => σ.row (d, h.castSucc, j) = 1 ∧ σ.ag (d, h, j) = 0 ∧ σ.todo.head? = some ⟨true, h, j, d⟩
  | .agWait h j d => σ.ag (d, h, j) = 1 ∧ σ.row (d, h.succ, j) = 0 ∧ ∀ x ∈ σ.todo, 5 + h.val < ixLev x.rcv
  | .rsDone s j d => σ.rs (d, s, j) = 2 ∧ σ.cell (d, s.castSucc, j) = 3 ∧ ∀ x ∈ σ.todo, 0 < ixLev x.rcv
  | .agDone h j d => σ.ag (d, h, j) = 2 ∧ σ.row (d, h.castSucc, j) = 2 ∧ ∀ x ∈ σ.todo, 0 < ixLev x.rcv

/-- What it makes of it. -/
def post (c : Dev nD) (σ : St) : Op → St
  | .bar => σ
  | .stage q j d => { σ with cell := Function.update σ.cell (d, stepOf d c q, j) (if stepOf d c q = 0 then 2 else 1) }
  | .wcopy => { σ with w := 1 }
  | .rsSend s j d => { σ with
      cell := Function.update σ.cell (d, s.castSucc, j) 3, rs := Function.update σ.rs (d, s, j) 1, todo := σ.todo.tail }
  | .acc s j d => { σ with
      rs := Function.update σ.rs (d, s, j) 2, cell := Function.update σ.cell (d, s.succ, j) 2 }
  | .mm j d => { σ with row := Function.update σ.row (d, 0, j) 1 }
  | .agSend h j d => { σ with
      row := Function.update σ.row (d, h.castSucc, j) 2, ag := Function.update σ.ag (d, h, j) 1, todo := σ.todo.tail }
  | .agWait h j d => { σ with
      ag := Function.update σ.ag (d, h, j) 2, row := Function.update σ.row (d, h.succ, j) 1 }
  | .rsDone s j d => { σ with
      rs := Function.update σ.rs (d, s, j) 3, cell := Function.update σ.cell (d, s.castSucc, j) 4 }
  | .agDone h j d => { σ with
      ag := Function.update σ.ag (d, h, j) 3, row := Function.update σ.row (d, h.castSucc, j) 1 }

section Rules

variable (A : Dev nD → Vec F S2048x1024 .bf16) (B : Dev nD → Vec F S1024x1024 .bf16)
  (K : Dev nD × Option Ix → ℕ) (c : Dev nD)

/-- A device's holdings in a state. -/
def holds (σ : St) : sProp 𝕄 :=
  iprop((bigSep Finset.univ fun i => cellC A c i (σ.cell i)) ∗ (bigSep Finset.univ fun i => rsC c i (σ.rs i))
    ∗ (bigSep Finset.univ fun i => rowC A B c i (σ.row i)) ∗ (bigSep Finset.univ fun i => agC c i (σ.ag i))
    ∗ wC B c σ.w ∗ ownsTc c tM fullShare (A c) ∗ ow c σ.todo)

/-! ### What the operations compute -/

theorem pay1_eq (v : Vec F S128x1024 .bf16) :
    k0_pay1 v = shapeCast S1x1x128x1024 v shapeCasts_S128x1024_S1x1x128x1024 := by
  unfold k0_pay1; rw [shapeCast_self]

theorem pay17_eq (v : Vec F S1024x1024 .bf16) : k0_pay17 v = v := by
  unfold k0_pay17; exact (shapeCast_self _ _).trans (shapeCast_self _ _)

theorem pay18_eq (X Y : Vec F S128x1024 .bf16) (h : S128x1024.ShapeCasts S1x1x1x128x1024) :
    k0_pay18 (shapeCast S1x1x128x1024 X shapeCasts_S128x1024_S1x1x128x1024) (shapeCast S1x1x1x128x1024 Y h)
      = shapeCast S1x1x128x1024 (addf (φ := .bf16) X Y) shapeCasts_S128x1024_S1x1x128x1024 := by
  unfold k0_pay18; simp only [shapeCast_shapeCast, shapeCast_self]

/-! ### The moves -/

variable (σ : St)

theorem slab_first (d j : Fin 2) (s : Fin 4) (h : s = 0) :
    slab A c d (snd d c s) j = acc A d j s.val c := by subst h; rfl

theorem run_stage (q : Fin 4) (j d : Fin 2) (h : pre c σ (.stage q j d) = true)
    (k : PUnit → Pr F) (Q : PUnit → sProp 𝕄) :
    holds A B c σ ⊢ iprop((holds A B c (post c σ (.stage q j d)) -∗ run c (k ⟨⟩) Q)
      -∗ run c ((opP c (.stage q j d)).bind k) Q) := by
  have h := of_decide_eq_true h
  unfold holds
  dsimp only [post]
  iintro ⟨Hcell, Hrs, Hrow, Hag, Hw, Ht, Ho⟩ Hk
  ihave ⟨Hc, Hcell⟩ := (family_move (cellC A c) σ.cell (d, stepOf d c q, j) h (if stepOf d c q = 0 then 2 else 1)
    (P := some_ c (cellM d q j)) (R := ownsTc c (cellM d q j) fullShare (slab A c d q j))
    (Entails.of_eq (by simp only [cellC, snd_stepOf]))
    (Entails.of_eq (by
      split
      · simp only [cellC, ← slab_first A c d j _ ‹_›, snd_stepOf]
      · simp only [cellC, snd_stepOf]))) $$ Hcell
  unfold some_
  icases Hc with ⟨%X, Hc⟩
  simp only [opP, stageP, Prog.lift, Prog.bind_op, Prog.bind_ret, Prog.pure_eq_ret]
  iapply (run_load_part tM (tRect q d j) c) $$ Ht
  iintro Ht
  iapply (run_load_cell c rfl X) $$ Hc
  iintro Hc
  iapply (run_store_cell c rfl X (slab A c d q j) (pay1_eq _)) $$ Hc
  iintro Hc
  iapply Hk
  isplitl [Hcell Hc]; · iapply Hcell; iexact Hc
  iframe

theorem run_wcopy (h : pre c σ .wcopy = true)
    (k : PUnit → Pr F) (Q : PUnit → sProp 𝕄) :
    holds A B c σ ⊢ iprop((holds A B c (post c σ .wcopy) -∗ run c (k ⟨⟩) Q)
      -∗ run c ((opP c .wcopy).bind k) Q) := by
  have h := of_decide_eq_true h
  unfold holds
  dsimp only [post]
  simp only [h, wC]
  iintro ⟨Hcell, Hrs, Hrow, Hag, ⟨Hw, %X, Hb⟩, Ht, Ho⟩ Hk
  simp only [opP, wcopyP, Prog.lift, Prog.bind_op, Prog.bind_ret, Prog.pure_eq_ret]
  iapply (run_load_w c (B c)) $$ Hw
  iintro Hw
  iapply (run_load_w c X) $$ Hb
  iintro Hb
  rw [pay17_eq]
  iapply (run_store_w c wbM X) $$ Hb
  iintro Hb
  iapply Hk
  iframe

theorem run_rsSend (s : Fin 3) (j d : Fin 2) (h : pre c σ (.rsSend s j d) = true)
    (k : PUnit → Pr F) (Q : PUnit → sProp 𝕄) :
    iprop(ctx A B K ∗ holds A B c σ) ⊢ iprop((holds A B c (post c σ (.rsSend s j d)) -∗ run c (k ⟨⟩) Q)
      -∗ run c ((opP c (.rsSend s j d)).bind k) Q) := by
  obtain ⟨h₁, h₂, h₃⟩ := of_decide_eq_true h
  obtain ⟨l, hl⟩ : ∃ l, σ.todo = ⟨false, s, j, d⟩ :: l := by
    cases ht : σ.todo with
    | nil => rw [ht] at h₃; cases h₃
    | cons x l => rw [ht] at h₃; exact ⟨l, by rw [Option.some.inj h₃]⟩
  unfold holds
  dsimp only [post]
  rw [hl, List.tail_cons]
  iintro ⟨#Hctx, Hcell, Hrs, Hrow, Hag, Hw, Ht, Ho⟩ Hk
  ihave ⟨Hc, Hcell⟩ := (family_move (cellC A c) σ.cell (d, s.castSucc, j) h₁ 3
    (P := ownsTc c (cellM d (snd d c s.castSucc) j) fullShare (acc A d j s.val c)) (R := iprop(emp))
    (Entails.of_eq rfl) (Entails.of_eq rfl)) $$ Hcell
  ihave ⟨Hr, Hrs⟩ := (family_move (rsC c) σ.rs (d, s, j) h₂ 1 (Entails.of_eq rfl) (Entails.of_eq rfl)) $$ Hrs
  simp only [rsC]
  icases Hr with ⟨Ht₁, Ht₂, Hd, Hp₂, Hc₂, Hp₁⟩
  simp only [opP, rsSendP, Prog.lift, Prog.bind_op, Prog.bind_ret, Prog.pure_eq_ret]
  iapply (run_send A B K c (toDev d c) ⟨false, s, j, d⟩ rfl (.rsS, d, s, j) l (acc A d j s.val c) (sndM_eq d j c s)
    (dst := slotM d s j) rfl rfl (by
      show ownsTc _ _ _ (acc A d j s.val (fromDev d (toDev d c))) = _
      rw [fromDev_toDev]) rfl) $$ [Hc Hd Ht₁ Ht₂ Ho]
  · isplitr; · iexact Hctx
    isplitl [Hc]; · iexact Hc
    isplitl [Hd]; · iexact Hd
    isplitl [Ht₁]; · iexact Ht₁
    isplitl [Ht₂]; · iexact Ht₂
    iexact Ho
  iintro ⟨Hc₁, Ho⟩
  iapply Hk
  isplitl [Hcell]; · iapply Hcell; itrivial
  isplitl [Hrs Hp₁ Hp₂ Hc₁ Hc₂]
  · iapply Hrs
    iframe
  iframe

theorem acc_succ (d j : Fin 2) (s : Fin 3) : acc A d j s.succ.val c
    = addf (φ := .bf16) (slab A c d (snd d c s.succ) j) (acc A d j s.val (fromDev d c)) := by
  have h : Fin.ofNat 4 (s.val + 1) = s.succ := by revert s; decide
  have e : acc A d j (s.val + 1) c = addf (φ := .bf16) (slab A c d (snd d c (Fin.ofNat 4 (s.val + 1))) j)
    (acc A d j s.val (fromDev d c)) := rfl
  rw [h] at e; exact e

theorem run_acc (s : Fin 3) (j d : Fin 2) (h : pre c σ (.acc s j d) = true)
    (k : PUnit → Pr F) (Q : PUnit → sProp 𝕄) :
    iprop(ctx A B K ∗ holds A B c σ) ⊢ iprop((holds A B c (post c σ (.acc s j d)) -∗ run c (k ⟨⟩) Q)
      -∗ run c ((opP c (.acc s j d)).bind k) Q) := by
  obtain ⟨h₁, h₂, h₃⟩ := of_decide_eq_true h
  unfold holds
  dsimp only [post]
  iintro ⟨#Hctx, Hcell, Hrs, Hrow, Hag, Hw, Ht, Ho⟩ Hk
  ihave ⟨Hc, Hcell⟩ := (family_move (cellC A c) σ.cell (d, s.succ, j) h₂ 2
    (P := ownsTc c (cellM d (snd d c s.succ) j) fullShare (slab A c d (snd d c s.succ) j))
    (R := ownsTc c (cellM d (snd d c s.succ) j) fullShare (acc A d j s.succ.val c))
    (Entails.of_eq rfl) (Entails.of_eq rfl)) $$ Hcell
  ihave ⟨Hr, Hrs⟩ := (family_move (rsC c) σ.rs (d, s, j) h₁ 2 (Entails.of_eq rfl) (Entails.of_eq rfl)) $$ Hrs
  simp only [rsC]
  icases Hr with ⟨Hp₂, Hc₂, Hp₁, Hc₁⟩
  simp only [opP, accP, Prog.lift, Prog.bind_op, Prog.bind_ret, Prog.pure_eq_ret]
  iapply (run_wait A B K c (.rsR, d, s, j) σ.todo h₃) $$ [Hp₂ Hc₂ Ho]
  · isplitr; · iexact Hctx
    isplitl [Hp₂]; · iexact Hp₂
    isplitl [Hc₂]; · iexact Hc₂
    iexact Ho
  simp only [pay]
  iintro ⟨Hs, Hz, Ho⟩
  iapply (run_load_cell c (rcvOff_eq d j c s) _) $$ Hc
  iintro Hc
  iapply (run_load_slot c _) $$ Hs
  iintro Hs
  iapply (run_load_cell c (rcvOff_eq d j c s) _) $$ Hc
  iintro Hc
  iapply (run_store_cell c (rcvOff_eq d j c s) _ (acc A d j s.succ.val c)
    (by rw [acc_succ]; exact pay18_eq _ _ _)) $$ Hc
  iintro Hc
  iapply Hk
  isplitl [Hcell Hc]; · iapply Hcell; iexact Hc
  isplitl [Hrs Hs Hz Hp₁ Hc₁]
  · iapply Hrs
    isplitl [Hs]; · iexists _; iexact Hs
    iframe
  iframe

theorem run_mm (j d : Fin 2) (h : pre c σ (.mm j d) = true)
    (k : PUnit → Pr F) (Q : PUnit → sProp 𝕄) :
    holds A B c σ ⊢ iprop((holds A B c (post c σ (.mm j d)) -∗ run c (k ⟨⟩) Q)
      -∗ run c ((opP c (.mm j d)).bind k) Q) := by
  obtain ⟨h₁, h₂, h₃⟩ := of_decide_eq_true h
  unfold holds
  dsimp only [post]
  simp only [h₂, wC]
  iintro ⟨Hcell, Hrs, Hrow, Hag, ⟨Hw, Hb⟩, Ht, Ho⟩ Hk
  ihave ⟨Hr, Hrow⟩ := (family_move (rowC A B c) σ.row (d, 0, j) h₃ 1
    (P := some_ c (rowsM (own d c) d j)) (R := ownsTc c (rowsM (own d c) d j) fullShare
      (k0_pay29 (shapeCast S1x1x128x1024 (acc A d j (3 : Fin 4).val c) shapeCasts_S128x1024_S1x1x128x1024) (B c)))
    (Entails.of_eq (by simp only [rowC, if_true])) (Entails.of_eq rfl)) $$ Hrow
  have hm := family_move (cellC A c) σ.cell (d, 3, j) h₁ 2
    (P := ownsTc c (cellM d (own d c) j) fullShare (acc A d j (3 : Fin 4).val c))
    (R := ownsTc c (cellM d (own d c) j) fullShare (acc A d j (3 : Fin 4).val c)) (Entails.of_eq rfl) (Entails.of_eq rfl)
  rw [show Function.update σ.cell (d, 3, j) 2 = σ.cell from Function.update_eq_iff.mpr ⟨h₁.symm, fun _ _ => rfl⟩] at hm
  ihave ⟨Hc, Hcell⟩ := hm $$ Hcell
  unfold some_
  icases Hr with ⟨%X, Hr⟩
  simp only [opP, mmP, Prog.lift, Prog.bind_op, Prog.bind_ret, Prog.pure_eq_ret]
  iapply (run_load_cell c (d := d) (ownOff_eq d j c) (acc A d j (3 : Fin 4).val c)) $$ Hc
  iintro Hc
  iapply (run_load_w c (B c)) $$ Hb
  iintro Hb
  iapply (run_load_rows c (outOff_eq d j c) X) $$ Hr
  iintro Hr
  iapply (run_store_rows c (outOff_eq d j c) X) $$ Hr
  iintro Hr
  iapply Hk
  isplitl [Hcell Hc]; · iapply Hcell; iexact Hc
  isplitl [Hrs]; · iexact Hrs
  isplitl [Hrow Hr]; · iapply Hrow; iexact Hr
  iframe

theorem run_agSend (s : Fin 3) (j d : Fin 2) (h : pre c σ (.agSend s j d) = true)
    (k : PUnit → Pr F) (Q : PUnit → sProp 𝕄) :
    iprop(ctx A B K ∗ holds A B c σ) ⊢ iprop((holds A B c (post c σ (.agSend s j d)) -∗ run c (k ⟨⟩) Q)
      -∗ run c ((opP c (.agSend s j d)).bind k) Q) := by
  obtain ⟨h₁, h₂, h₃⟩ := of_decide_eq_true h
  obtain ⟨l, hl⟩ : ∃ l, σ.todo = ⟨true, s, j, d⟩ :: l := by
    cases ht : σ.todo with
    | nil => rw [ht] at h₃; cases h₃
    | cons x l => rw [ht] at h₃; exact ⟨l, by rw [Option.some.inj h₃]⟩
  unfold holds
  dsimp only [post]
  rw [hl, List.tail_cons]
  iintro ⟨#Hctx, Hcell, Hrs, Hrow, Hag, Hw, Ht, Ho⟩ Hk
  ihave ⟨Hc, Hrow⟩ := (family_move (rowC A B c) σ.row (d, s.castSucc, j) h₁ 2
    (P := ownsTc c (rowsM (own d (up d s.val c)) d j) fullShare (prod A B d j (up d s.val c))) (R := iprop(emp))
    (Entails.of_eq rfl) (Entails.of_eq rfl)) $$ Hrow
  ihave ⟨Hr, Hag⟩ := (family_move (agC c) σ.ag (d, s, j) h₂ 1 (Entails.of_eq rfl) (Entails.of_eq rfl)) $$ Hag
  simp only [agC]
  icases Hr with ⟨Ht₁, Ht₂, Hd, Hp₂, Hc₂, Hp₁⟩
  simp only [opP, agSendP, Prog.lift, Prog.bind_op, Prog.bind_ret, Prog.pure_eq_ret]
  iapply (run_send A B K c (toDev d c) ⟨true, s, j, d⟩ rfl (.agS, d, s, j) l (prod A B d j (up d s.val c)) (agM_eq d j c s)
    (agM_eq d j c s) rfl (by
      show ownsTc _ (rowsM (own d (up d (s.val + 1) (toDev d c))) d j) _ (prod A B d j (up d (s.val + 1) (toDev d c))) = _
      rw [up_succ, fromDev_toDev]) rfl) $$ [Hc Hd Ht₁ Ht₂ Ho]
  · isplitr; · iexact Hctx
    isplitl [Hc]; · iexact Hc
    isplitl [Hd]; · iexact Hd
    isplitl [Ht₁]; · iexact Ht₁
    isplitl [Ht₂]; · iexact Ht₂
    iexact Ho
  iintro ⟨Hc₁, Ho⟩
  iapply Hk
  isplitl [Hcell]; · iexact Hcell
  isplitl [Hrs]; · iexact Hrs
  isplitl [Hrow]; · iapply Hrow; itrivial
  isplitl [Hag Hp₁ Hp₂ Hc₁ Hc₂]
  · iapply Hag
    iframe
  iframe

theorem run_agWait (s : Fin 3) (j d : Fin 2) (h : pre c σ (.agWait s j d) = true)
    (k : PUnit → Pr F) (Q : PUnit → sProp 𝕄) :
    iprop(ctx A B K ∗ holds A B c σ) ⊢ iprop((holds A B c (post c σ (.agWait s j d)) -∗ run c (k ⟨⟩) Q)
      -∗ run c ((opP c (.agWait s j d)).bind k) Q) := by
  obtain ⟨h₁, h₂, h₃⟩ := of_decide_eq_true h
  unfold holds
  dsimp only [post]
  iintro ⟨#Hctx, Hcell, Hrs, Hrow, Hag, Hw, Ht, Ho⟩ Hk
  ihave ⟨-, Hrow⟩ := (family_move (rowC A B c) σ.row (d, s.succ, j) h₂ 1 (P := iprop(emp)) (R := pay A B c (.agR, d, s, j))
    (Entails.of_eq (by simp only [rowC]; exact if_neg (Fin.succ_ne_zero s))) (Entails.of_eq rfl)) $$ Hrow
  ihave ⟨Hr, Hag⟩ := (family_move (agC c) σ.ag (d, s, j) h₁ 2 (Entails.of_eq rfl) (Entails.of_eq rfl)) $$ Hag
  simp only [agC]
  icases Hr with ⟨Hp₂, Hc₂, Hp₁, Hc₁⟩
  simp only [opP, agWaitP, Prog.lift, Prog.bind_op, Prog.bind_ret, Prog.pure_eq_ret]
  iapply (run_wait A B K c (.agR, d, s, j) σ.todo h₃) $$ [Hp₂ Hc₂ Ho]
  · isplitr; · iexact Hctx
    isplitl [Hp₂]; · iexact Hp₂
    isplitl [Hc₂]; · iexact Hc₂
    iexact Ho
  iintro ⟨Hs, Hz, Ho⟩
  iapply Hk
  isplitl [Hcell]; · iexact Hcell
  isplitl [Hrs]; · iexact Hrs
  isplitl [Hrow Hs]; · iapply Hrow; iexact Hs
  isplitl [Hag Hz Hp₁ Hc₁]
  · iapply Hag
    iframe
  iframe

theorem run_rsDone (s : Fin 3) (j d : Fin 2) (h : pre c σ (.rsDone s j d) = true)
    (k : PUnit → Pr F) (Q : PUnit → sProp 𝕄) :
    iprop(ctx A B K ∗ holds A B c σ) ⊢ iprop((holds A B c (post c σ (.rsDone s j d)) -∗ run c (k ⟨⟩) Q)
      -∗ run c ((opP c (.rsDone s j d)).bind k) Q) := by
  obtain ⟨h₁, h₂, h₃⟩ := of_decide_eq_true h
  unfold holds
  dsimp only [post]
  iintro ⟨#Hctx, Hcell, Hrs, Hrow, Hag, Hw, Ht, Ho⟩ Hk
  ihave ⟨-, Hcell⟩ := (family_move (cellC A c) σ.cell (d, s.castSucc, j) h₂ 4 (P := iprop(emp))
    (R := some_ c (cellM d (snd d c s.castSucc) j)) (Entails.of_eq rfl) (Entails.of_eq rfl)) $$ Hcell
  ihave ⟨Hr, Hrs⟩ := (family_move (rsC c) σ.rs (d, s, j) h₁ 3 (Entails.of_eq rfl) (Entails.of_eq rfl)) $$ Hrs
  simp only [rsC]
  icases Hr with ⟨Hs, Hz₂, Hp₁, Hc₁⟩
  simp only [opP, rsDoneP, Prog.lift, Prog.bind_op, Prog.bind_ret, Prog.pure_eq_ret]
  iapply (run_wait A B K c (.rsS, d, s, j) σ.todo h₃) $$ [Hp₁ Hc₁ Ho]
  · isplitr; · iexact Hctx
    isplitl [Hp₁]; · iexact Hp₁
    isplitl [Hc₁]; · iexact Hc₁
    iexact Ho
  simp only [pay]
  iintro ⟨Hc, Hz₁, Ho⟩
  iapply Hk
  isplitl [Hcell Hc]; · iapply Hcell; iexists _; iexact Hc
  isplitl [Hrs Hs Hz₁ Hz₂]
  · iapply Hrs
    iframe
  iframe

theorem run_agDone (s : Fin 3) (j d : Fin 2) (h : pre c σ (.agDone s j d) = true)
    (k : PUnit → Pr F) (Q : PUnit → sProp 𝕄) :
    iprop(ctx A B K ∗ holds A B c σ) ⊢ iprop((holds A B c (post c σ (.agDone s j d)) -∗ run c (k ⟨⟩) Q)
      -∗ run c ((opP c (.agDone s j d)).bind k) Q) := by
  obtain ⟨h₁, h₂, h₃⟩ := of_decide_eq_true h
  unfold holds
  dsimp only [post]
  iintro ⟨#Hctx, Hcell, Hrs, Hrow, Hag, Hw, Ht, Ho⟩ Hk
  ihave ⟨-, Hrow⟩ := (family_move (rowC A B c) σ.row (d, s.castSucc, j) h₂ 1 (P := iprop(emp)) (R := pay A B c (.agS, d, s, j))
    (Entails.of_eq rfl) (Entails.of_eq rfl)) $$ Hrow
  ihave ⟨Hr, Hag⟩ := (family_move (agC c) σ.ag (d, s, j) h₁ 3 (Entails.of_eq rfl) (Entails.of_eq rfl)) $$ Hag
  simp only [agC]
  icases Hr with ⟨Hz₂, Hp₁, Hc₁⟩
  simp only [opP, agDoneP, Prog.lift, Prog.bind_op, Prog.bind_ret, Prog.pure_eq_ret]
  iapply (run_wait A B K c (.agS, d, s, j) σ.todo h₃) $$ [Hp₁ Hc₁ Ho]
  · isplitr; · iexact Hctx
    isplitl [Hp₁]; · iexact Hp₁
    isplitl [Hc₁]; · iexact Hc₁
    iexact Ho
  iintro ⟨Hs, Hz₁, Ho⟩
  iapply Hk
  isplitl [Hcell]; · iexact Hcell
  isplitl [Hrs]; · iexact Hrs
  isplitl [Hrow Hs]; · iapply Hrow; iexact Hs
  isplitl [Hag Hz₁ Hz₂]
  · iapply Hag
    iframe
  iframe

/-- Every operation but the barrier runs from a state it may start in to the state it makes. -/
theorem run_op (o : Op) (h : pre c σ o = true) (k : PUnit → Pr F) (Q : PUnit → sProp 𝕄) :
    iprop(ctx A B K ∗ holds A B c σ) ⊢ iprop((holds A B c (post c σ o) -∗ run c (k ⟨⟩) Q)
      -∗ run c ((opP c o).bind k) Q) := by
  have drop : ∀ {R : sProp 𝕄}, (holds A B c σ ⊢ R) → (iprop(ctx A B K ∗ holds A B c σ) ⊢ R) := fun {R} hR => by
    iintro ⟨-, H⟩; iapply hR; iexact H
  cases o with
  | bar => cases h
  | stage q j d => exact drop (run_stage A B c σ q j d h k Q)
  | wcopy => exact drop (run_wcopy A B c σ h k Q)
  | rsSend s j d => exact run_rsSend A B K c σ s j d h k Q
  | acc s j d => exact run_acc A B K c σ s j d h k Q
  | mm j d => exact drop (run_mm A B c σ j d h k Q)
  | agSend s j d => exact run_agSend A B K c σ s j d h k Q
  | agWait s j d => exact run_agWait A B K c σ s j d h k Q
  | rsDone s j d => exact run_rsDone A B K c σ s j d h k Q
  | agDone s j d => exact run_agDone A B K c σ s j d h k Q

/-! ### The whole list -/

/-- Whether a list of operations may run from a state. -/
def runs (c : Dev nD) : St → List Op → Bool
  | _, [] => true
  | σ, o :: os => pre c σ o && runs c (post c σ o) os

/-- The state it ends in. -/
def after (c : Dev nD) : St → List Op → St
  | σ, [] => σ
  | σ, o :: os => after c (post c σ o) os

theorem run_list (Q : PUnit → sProp 𝕄) : ∀ (os : List Op) (σ : St), runs c σ os = true →
    (iprop(ctx A B K ∗ holds A B c σ) ⊢ iprop((holds A B c (after c σ os) -∗ Q ⟨⟩) -∗ run c (runOps c os) Q))
  | [], σ, _ => by
    iintro ⟨-, H⟩ Hk
    unfold runOps after
    unfold run
    rw [Prog.pure_eq_ret, wp_ret]
    imodintro
    iapply Hk; iexact H
  | o :: os, σ, h => by
    obtain ⟨h₁, h₂⟩ := Bool.and_eq_true_iff.mp h
    iintro ⟨#Hctx, H⟩ Hk
    unfold runOps after
    iapply (run_op A B K c σ o h₁) $$ [H]
    · isplitr; · iexact Hctx
      iexact H
    iintro H
    iapply (run_list Q os (post c σ o) h₂) $$ [H]
    · isplitr; · iexact Hctx
      iexact H
    iexact Hk

/-- The state once the barrier is passed. -/
def σ₀ : St where
  cell _ := 0
  rs _ := 0
  row _ := 0
  ag _ := 0
  w := 0
  todo := ops.filterMap fun
    | .rsSend s j d => some ⟨false, s, j, d⟩
    | .agSend s j d => some ⟨true, s, j, d⟩
    | _ => none

/-- The state at the end. -/
def σ₁ : St where
  cell k := if k.2.1 = 3 then 2 else 4
  rs _ := 3
  row _ := 1
  ag _ := 3
  w := 1
  todo := []

theorem runs_ops (c : Dev nD) : runs c σ₀ ops.tail = true := by revert c; decide +kernel

theorem after_ops (c : Dev nD) : after c σ₀ ops.tail = σ₁ := by
  have h : (∀ k, (after c σ₀ ops.tail).cell k = σ₁.cell k) ∧ (∀ k, (after c σ₀ ops.tail).rs k = σ₁.rs k)
      ∧ (∀ k, (after c σ₀ ops.tail).row k = σ₁.row k) ∧ (∀ k, (after c σ₀ ops.tail).ag k = σ₁.ag k)
      ∧ (after c σ₀ ops.tail).w = σ₁.w ∧ (after c σ₀ ops.tail).todo = σ₁.todo := by
    revert c; decide +kernel
  obtain ⟨h₁, h₂, h₃, h₄, h₅, h₆⟩ := h
  cases hs : after c σ₀ ops.tail
  rw [hs] at h₁ h₂ h₃ h₄ h₅ h₆
  exact St.mk.injEq .. ▸ ⟨funext h₁, funext h₂, funext h₃, funext h₄, h₅, h₆⟩

end Rules

end Cert.KernelIdeal.Ring

end
-- ==== Proof.Split.lean ====
/- The device's buffers cut into the exchange's slices, and put together again. -/
module

public import proofs.«01_k».proof.Proof.State

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any disjoint cover -/

section Cover

variable {sh : Shape} {e : EltTy} {T : Type} [Fintype T] [DecidableEq T]

/-- Contents given on each rectangle of a disjoint family are some contents' parts. -/
theorem glue {V : Type} [Nonempty V] (r : T → Rect sh) (hd : ∀ t t', t ≠ t' → Disjoint (r t).set (r t').set)
    (Y : (t : T) → (r t).shape.Idx → V) : ∃ X : sh.Idx → V, ∀ t, (fun j => X ((r t).emb j)) = Y t := by
  classical
  refine ⟨fun i => if h : ∃ p : (t : T) × (r t).shape.Idx, (r p.1).emb p.2 = i then Y h.choose.1 h.choose.2
    else Classical.arbitrary V, fun t => funext fun j => ?_⟩
  have h : ∃ p : (t : T) × (r t).shape.Idx, (r p.1).emb p.2 = (r t).emb j := ⟨⟨t, j⟩, rfl⟩
  refine (dif_pos h).trans ?_
  generalize hp : h.choose = p
  have hs : (r p.1).emb p.2 = (r t).emb j := hp ▸ h.choose_spec
  obtain ⟨t', j'⟩ := p
  have ht : t' = t := by
    by_contra hne
    refine Finset.disjoint_left.mp (hd t' t hne) (show (r t).emb j ∈ (r t').set from ?_) ?_
    · rw [← Rect.map_emb_univ, Finset.mem_map]; exact ⟨j', Finset.mem_univ _, hs⟩
    · rw [← Rect.map_emb_univ, Finset.mem_map]; exact ⟨j, Finset.mem_univ _, rfl⟩
  subst ht
  rw [(r t').emb.injective hs]

variable (M : Memref sig .tc .vmem sh e) (r : T → Rect sh) (hr : ∀ t a, (r t).stride a = 1)
  (hd : ∀ t t', t ≠ t' → Disjoint (r t).set (r t').set)
  (hcov : (Finset.univ : Finset T).biUnion (fun t => (r t).set) = Finset.univ) (c : Dev nD)
include hd hcov

/-- A memref at some contents is each of its slices at some contents, -/
theorem cut : iprop(∃ X, ownsTc c M fullShare X)
    ⊢ (bigSep Finset.univ fun t => iprop(∃ Y, ownsTc c (M.slice (r t) (hr t)) fullShare Y) : sProp 𝕄) := by
  iintro ⟨%X, H⟩
  ihave H := (owns_rects (c : Thread nD τ) M fullShare r hr hd hcov X) $$ H
  have hm : (bigSep Finset.univ fun t => ownsTc c (M.slice (r t) (hr t)) fullShare (fun j => X ((r t).emb j)) : sProp 𝕄)
      ⊢ (bigSep Finset.univ fun t => iprop(∃ Y, ownsTc c (M.slice (r t) (hr t)) fullShare Y)) :=
    bigSep_mono (fun t _ => show ownsTc c (M.slice (r t) (hr t)) fullShare (fun j => X ((r t).emb j))
      ⊢ iprop(∃ Y, ownsTc c (M.slice (r t) (hr t)) fullShare Y) by iintro H; iexists _; iexact H)
  iapply hm; iexact H

/-- and back. -/
theorem joined [∀ e, Nonempty (Elt F e)] :
    (bigSep Finset.univ fun t => iprop(∃ Y, ownsTc c (M.slice (r t) (hr t)) fullShare Y) : sProp 𝕄)
    ⊢ iprop(∃ X, ownsTc c M fullShare X) := by
  iintro H
  ihave H := (bigSep_exists_pi Finset.univ (fun t Y => (ownsTc c (M.slice (r t) (hr t)) fullShare Y : sProp 𝕄))) $$ H
  icases H with ⟨%Y, H⟩
  obtain ⟨X, hX⟩ := glue r hd Y
  iexists X
  have h : (bigSep Finset.univ fun t => ownsTc c (M.slice (r t) (hr t)) fullShare (fun j => X ((r t).emb j)) : sProp 𝕄)
      ⊢ ownsTc c M fullShare X := owns_of_rects (c : Thread nD τ) M fullShare r hr hd hcov X
  simp only [hX] at h
  iapply h; iexact H

end Cover

/-! ## The three covers -/

theorem st_disjoint (t t' : Fin 4 × Fin 2) (h : t ≠ t') :
    Disjoint (stRect t.1 t.2).set (stRect t'.1 t'.2).set := by
  obtain ⟨a, ha⟩ : ∃ a : Fin 4, stOff t.1 t.2 a + S1x1x128x1024.size a ≤ stOff t'.1 t'.2 a
      ∨ stOff t'.1 t'.2 a + S1x1x128x1024.size a ≤ stOff t.1 t.2 a := by revert t t'; decide
  exact Rect.unit_disjoint a ha

theorem st_cover : (Finset.univ : Finset (Fin 4 × Fin 2)).biUnion (fun t => (stRect t.1 t.2).set) = Finset.univ := by
  refine Finset.eq_univ_iff_forall.mpr fun i => Finset.mem_biUnion.mpr ⟨((i 0 : Fin 4), (i 1 : Fin 2)), Finset.mem_univ _, ?_⟩
  refine Rect.mem_set_unit.mpr fun a => ?_
  have ha := (i a).isLt
  fin_cases a <;> simp [S4x2x128x1024] at ha ⊢ <;> omega

theorem slot_disjoint (t t' : T3) (h : t ≠ t') :
    Disjoint (rRect t.1 t.2.1 t.2.2).set (rRect t'.1 t'.2.1 t'.2.2).set := by
  obtain ⟨a, ha⟩ : ∃ a : Fin 5, rOff t.1 t.2.1 t.2.2 a + S1x1x1x128x1024.size a ≤ rOff t'.1 t'.2.1 t'.2.2 a
      ∨ rOff t'.1 t'.2.1 t'.2.2 a + S1x1x1x128x1024.size a ≤ rOff t.1 t.2.1 t.2.2 a := by revert t t'; decide
  exact Rect.unit_disjoint a ha

theorem slot_cover : (Finset.univ : Finset T3).biUnion (fun t => (rRect t.1 t.2.1 t.2.2).set) = Finset.univ := by
  refine Finset.eq_univ_iff_forall.mpr fun i =>
    Finset.mem_biUnion.mpr ⟨((i 0 : Fin 2), (i 1 : Fin 3), (i 2 : Fin 2)), Finset.mem_univ _, ?_⟩
  refine Rect.mem_set_unit.mpr fun a => ?_
  have ha := (i a).isLt
  fin_cases a <;> simp [S2x3x2x128x1024] at ha ⊢ <;> omega

/-- The rows by direction, chunk, sub-slice. -/
abbrev rowRect (t : T4) : Rect S2048x1024 := tRect t.2.1 t.1 t.2.2

theorem row_disjoint (t t' : T4) (h : t ≠ t') : Disjoint (rowRect t).set (rowRect t').set := by
  obtain ⟨a, ha⟩ : ∃ a : Fin 2, tOff t.2.1 t.1 t.2.2 a + S128x1024.size a ≤ tOff t'.2.1 t'.1 t'.2.2 a
      ∨ tOff t'.2.1 t'.1 t'.2.2 a + S128x1024.size a ≤ tOff t.2.1 t.1 t.2.2 a := by revert t t'; decide +kernel
  exact Rect.unit_disjoint a ha

/-- The block of rows a row lies in. -/
def blockOf (i : S2048x1024.Idx) : T4 :=
  (⟨(i 0).val / 256 % 2, Nat.mod_lt _ (by decide)⟩, ⟨(i 0).val / 512, by have := (i 0).isLt; simp [S2048x1024] at this; omega⟩,
    ⟨(i 0).val / 128 % 2, Nat.mod_lt _ (by decide)⟩)

theorem mem_blockOf (i : S2048x1024.Idx) : i ∈ (rowRect (blockOf i)).set := by
  refine Rect.mem_set_unit.mpr fun a => ?_
  have ha := (i a).isLt
  fin_cases a <;> simp [S2048x1024, blockOf] at ha ⊢ <;> omega

theorem row_cover : (Finset.univ : Finset T4).biUnion (fun t => (rowRect t).set) = Finset.univ :=
  Finset.eq_univ_iff_forall.mpr fun i => Finset.mem_biUnion.mpr ⟨blockOf i, Finset.mem_univ _, mem_blockOf i⟩

/-! ## The buffers in slices -/

section Buffers

variable (c : Dev nD)

/-- A buffer's slices by chunk are its slices by step. -/
def byStep (c : Dev nD) : T4 ≃ T4 where
  toFun k := (k.1, snd k.1 c k.2.1, k.2.2)
  invFun k := (k.1, stepOf k.1 c k.2.1, k.2.2)
  left_inv k := by simp only [stepOf_snd]
  right_inv k := by simp only [snd_stepOf]

theorem some_cell (d : Fin 2) (q : Fin 4) (j : Fin 2) :
    (some_ c (cellM d q j) : sProp 𝕄) = iprop(∃ Y, ownsTc c ((bufM d).slice (stRect q j) (fun _ => rfl)) fullShare Y) := by
  have h₁ : (some_ c (cellM d q j) : sProp 𝕄)
      ⊢ iprop(∃ Y, ownsTc c ((bufM d).slice (stRect q j) (fun _ => rfl)) fullShare Y) := by
    iintro ⟨%X, H⟩
    ihave H := (Entails.of_eq (owns_cell c d q j X)) $$ H
    iexists _; iexact H
  have h₂ : (iprop(∃ Y, ownsTc c ((bufM d).slice (stRect q j) (fun _ => rfl)) fullShare Y) : sProp 𝕄)
      ⊢ some_ c (cellM d q j) := by
    iintro ⟨%Y, H⟩
    iexists (shapeCast S128x1024 Y shapeCasts_S1x1x128x1024_S128x1024)
    iapply (Entails.of_eq (owns_cell c d q j _).symm)
    rw [show shapeCast S1x1x128x1024 (shapeCast S128x1024 Y shapeCasts_S1x1x128x1024_S128x1024) shapeCasts_S128x1024_S1x1x128x1024 = Y from
      shapeCast_shapeCast _ _ _]
    iexact H
  exact BI.equiv_iff.mp ⟨h₁, h₂⟩

theorem some_slot (d : Fin 2) (s : Fin 3) (j : Fin 2) :
    (some_ c (slotM d s j) : sProp 𝕄) = iprop(∃ Y, ownsTc c (rM.slice (rRect d s j) (fun _ => rfl)) fullShare Y) := by
  have h₁ : (some_ c (slotM d s j) : sProp 𝕄)
      ⊢ iprop(∃ Y, ownsTc c (rM.slice (rRect d s j) (fun _ => rfl)) fullShare Y) := by
    iintro ⟨%X, H⟩
    ihave H := (Entails.of_eq (owns_slot c d s j X)) $$ H
    iexists _; iexact H
  have h₂ : (iprop(∃ Y, ownsTc c (rM.slice (rRect d s j) (fun _ => rfl)) fullShare Y) : sProp 𝕄)
      ⊢ some_ c (slotM d s j) := by
    iintro ⟨%Y, H⟩
    iexists (shapeCast S128x1024 Y shapeCasts_S1x1x1x128x1024_S128x1024)
    iapply (Entails.of_eq (owns_slot c d s j _).symm)
    rw [show shapeCast S1x1x1x128x1024 (shapeCast S128x1024 Y shapeCasts_S1x1x1x128x1024_S128x1024) slotCasts = Y from
      shapeCast_shapeCast _ _ _]
    iexact H
  exact BI.equiv_iff.mp ⟨h₁, h₂⟩

theorem cells_eq (Φ : T4 → sProp 𝕄) :
    (bigSep Finset.univ fun k : T4 => Φ (k.1, snd k.1 c k.2.1, k.2.2))
      = iprop((bigSep Finset.univ fun t : Fin 4 × Fin 2 => Φ (0, t)) ∗ (bigSep Finset.univ fun t : Fin 4 × Fin 2 => Φ (1, t))) := by
  rw [show (bigSep Finset.univ fun k : T4 => Φ (k.1, snd k.1 c k.2.1, k.2.2)) = bigSep Finset.univ Φ from
    (bigSep_univ_equiv (byStep c) Φ).symm, bigSep_univ_prod, bigSep_univ_two]

theorem cells_some (d : Fin 2) : (bigSep Finset.univ fun t : Fin 4 × Fin 2 => some_ c (cellM d t.1 t.2) : sProp 𝕄)
    = bigSep Finset.univ fun t : Fin 4 × Fin 2 => iprop(∃ Y, ownsTc c ((bufM d).slice (stRect t.1 t.2) (fun _ => rfl)) fullShare Y) :=
  bigSep_congr fun t _ => some_cell c d t.1 t.2

theorem cells_cut : iprop((∃ X, ownsTc c (bufM 0) fullShare X) ∗ (∃ X, ownsTc c (bufM 1) fullShare X))
    ⊢ (bigSep Finset.univ fun k : T4 => some_ c (cellM k.1 (snd k.1 c k.2.1) k.2.2) : sProp 𝕄) := by
  rw [cells_eq c fun k => some_ c (cellM k.1 k.2.1 k.2.2)]
  rw [cells_some c 0, cells_some c 1]
  exact BIClass.sep_mono (cut (bufM 0) (fun t : Fin 4 × Fin 2 => stRect t.1 t.2) (fun _ _ => rfl) st_disjoint st_cover c)
    (cut (bufM 1) (fun t : Fin 4 × Fin 2 => stRect t.1 t.2) (fun _ _ => rfl) st_disjoint st_cover c)

theorem cells_join [∀ e, Nonempty (Elt F e)] :
    (bigSep Finset.univ fun k : T4 => some_ c (cellM k.1 (snd k.1 c k.2.1) k.2.2) : sProp 𝕄)
    ⊢ iprop((∃ X, ownsTc c (bufM 0) fullShare X) ∗ (∃ X, ownsTc c (bufM 1) fullShare X)) := by
  rw [cells_eq c fun k => some_ c (cellM k.1 k.2.1 k.2.2)]
  rw [cells_some c 0, cells_some c 1]
  exact BIClass.sep_mono (joined (bufM 0) (fun t : Fin 4 × Fin 2 => stRect t.1 t.2) (fun _ _ => rfl) st_disjoint st_cover c)
    (joined (bufM 1) (fun t : Fin 4 × Fin 2 => stRect t.1 t.2) (fun _ _ => rfl) st_disjoint st_cover c)

theorem slots_some : (bigSep Finset.univ fun k : T3 => some_ c (slotM k.1 k.2.1 k.2.2) : sProp 𝕄)
    = bigSep Finset.univ fun k : T3 => iprop(∃ Y, ownsTc c (rM.slice (rRect k.1 k.2.1 k.2.2) (fun _ => rfl)) fullShare Y) :=
  bigSep_congr fun k _ => some_slot c k.1 k.2.1 k.2.2

theorem slots_cut : iprop(∃ X, ownsTc c rM fullShare X)
    ⊢ (bigSep Finset.univ fun k : T3 => some_ c (slotM k.1 k.2.1 k.2.2) : sProp 𝕄) := by
  rw [slots_some]
  exact cut rM (fun t : T3 => rRect t.1 t.2.1 t.2.2) (fun _ _ => rfl) slot_disjoint slot_cover c

theorem slots_join [∀ e, Nonempty (Elt F e)] :
    (bigSep Finset.univ fun k : T3 => some_ c (slotM k.1 k.2.1 k.2.2) : sProp 𝕄)
    ⊢ iprop(∃ X, ownsTc c rM fullShare X) := by
  rw [slots_some]
  exact joined rM (fun t : T3 => rRect t.1 t.2.1 t.2.2) (fun _ _ => rfl) slot_disjoint slot_cover c

/-- The result's rows by chunk are its rows by gather step. -/
def byGather (c : Dev nD) : T4 ≃ T4 :=
  Equiv.ofBijective (fun k : T4 => (k.1, own k.1 (up k.1 k.2.1.val c), k.2.2))
    (Finite.injective_iff_bijective.mp (by
      have h : ∀ c : Dev nD, ∀ a b : T4, (a.1, own a.1 (up a.1 a.2.1.val c), a.2.2) = (b.1, own b.1 (up b.1 b.2.1.val c), b.2.2)
        → a = b := by decide +kernel
      exact fun a b => h c a b))

theorem rows_eq (Φ : T4 → sProp 𝕄) :
    (bigSep Finset.univ fun k : T4 => Φ (k.1, own k.1 (up k.1 k.2.1.val c), k.2.2)) = bigSep Finset.univ Φ :=
  (bigSep_univ_equiv (byGather c) Φ).symm

theorem rows_cut : iprop(∃ X, ownsTc c oM fullShare X)
    ⊢ (bigSep Finset.univ fun k : T4 => some_ c (rowsM (own k.1 (up k.1 k.2.1.val c)) k.1 k.2.2) : sProp 𝕄) := by
  rw [rows_eq c fun k => some_ c (rowsM k.2.1 k.1 k.2.2)]
  exact cut oM rowRect (fun _ _ => rfl) row_disjoint row_cover c

variable (A : Dev nD → Vec F S2048x1024 .bf16) (B : Dev nD → Vec F S1024x1024 .bf16)

/-- The result: each block of rows is its owner's product. -/
def outV : Vec F S2048x1024 .bf16 := fun i =>
  prod A B (blockOf i).1 (blockOf i).2.2 (ownerOf (blockOf i).1 (blockOf i).2.1)
    (fun a => ⟨(i a).val - tOff (blockOf i).2.1 (blockOf i).1 (blockOf i).2.2 a,
      (Nat.sub_lt_iff_lt_add' ((Rect.mem_set_unit.mp (mem_blockOf i)) a).1).mpr ((Rect.mem_set_unit.mp (mem_blockOf i)) a).2⟩)

theorem outV_emb (t : T4) : (fun j => outV A B ((rowRect t).emb j)) = prod A B t.1 t.2.2 (ownerOf t.1 t.2.1) := by
  funext j
  have hb : blockOf ((rowRect t).emb j) = t := by
    by_contra h
    refine Finset.disjoint_left.mp (row_disjoint _ _ h) (mem_blockOf _) ?_
    rw [← Rect.map_emb_univ, Finset.mem_map]; exact ⟨j, Finset.mem_univ _, rfl⟩
  unfold outV
  rw [show ∀ (u : T4) (hu : u = t) (x y : S128x1024.Idx) (hx : x = y),
    prod A B u.1 u.2.2 (ownerOf u.1 u.2.1) x = prod A B t.1 t.2.2 (ownerOf t.1 t.2.1) y from
      fun u hu x y hx => by subst hu hx; rfl]
  · exact hb
  · refine funext fun a => Fin.ext ?_
    show ((rowRect t).emb j a).val - _ = _
    rw [hb]
    show tOff t.2.1 t.1 t.2.2 a + 1 * (j a).val - tOff t.2.1 t.1 t.2.2 a = (j a).val
    omega

theorem rows_join [∀ e, Nonempty (Elt F e)] :
    (bigSep Finset.univ fun k : T4 => ownsTc c (rowsM (own k.1 (up k.1 k.2.1.val c)) k.1 k.2.2) fullShare
      (prod A B k.1 k.2.2 (up k.1 k.2.1.val c)) : sProp 𝕄) ⊢ ownsTc c oM fullShare (outV A B) := by
  rw [show (bigSep Finset.univ fun k : T4 => ownsTc c (rowsM (own k.1 (up k.1 k.2.1.val c)) k.1 k.2.2) fullShare
      (prod A B k.1 k.2.2 (up k.1 k.2.1.val c)) : sProp 𝕄)
    = bigSep Finset.univ fun k : T4 => ownsTc c (rowsM k.2.1 k.1 k.2.2) fullShare (prod A B k.1 k.2.2 (ownerOf k.1 k.2.1)) from by
      rw [← rows_eq c fun k => ownsTc c (rowsM k.2.1 k.1 k.2.2) fullShare (prod A B k.1 k.2.2 (ownerOf k.1 k.2.1))]
      simp only [ownerOf_own]]
  have h : (bigSep Finset.univ fun t : T4 => ownsTc c (rowsM t.2.1 t.1 t.2.2) fullShare (fun j => outV A B ((rowRect t).emb j)) : sProp 𝕄)
      ⊢ ownsTc c oM fullShare (outV A B) := owns_of_rects (c : Thread nD τ) oM fullShare rowRect (fun _ _ => rfl) row_disjoint row_cover (outV A B)
  refine (Entails.of_eq (bigSep_congr fun t _ => ?_)).trans h
  exact congrArg (ownsTc c (rowsM t.2.1 t.1 t.2.2) fullShare) (outV_emb A B t).symm

end Buffers

/-! ## The first gather step set apart -/

/-- A later gather step's rows among all. -/
def later : T3 ↪ T4 := ⟨fun k => (k.1, k.2.1.succ, k.2.2), fun a b h => by revert h; revert a b; decide⟩

theorem rows_split (Φ : T4 → sProp 𝕄) : bigSep Finset.univ Φ
    ⊢ iprop((bigSep Finset.univ fun k : T4 => if k.2.1 = 0 then Φ k else iprop(emp))
      ∗ bigSep Finset.univ fun k : T3 => Φ (k.1, k.2.1.succ, k.2.2)) := by
  have h : (Finset.univ.filter fun k : T4 => ¬ k.2.1 = 0) = Finset.univ.map later := by decide
  refine (Entails.of_eq (bigSep_filter_split Finset.univ (fun k : T4 => k.2.1 = 0) (Φ := Φ))).trans ?_
  rw [bigSep_filter, h, bigSep_map]
  exact Entails.refl _

end Cert.KernelIdeal.Ring

end
-- ==== Proof.Body.lean ====
/- The kernel's body on one device: the handshake, then the operations of the list.

   The device signals, for each direction, the neighbour that will write to it, and hands it the landing slots and the
   rows of the result it will write; its own wait gives the destinations of its own copies. -/
module

public import proofs.«01_k».proof.Proof.Split

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the handshake hands over -/

/-- Both directions' families of destinations are one family. -/
theorem by_dir (Φ : T3 → sProp 𝕄) : bigSep Finset.univ Φ
    = iprop((bigSep Finset.univ fun t : Fin 3 × Fin 2 => Φ (0, t)) ∗ bigSep Finset.univ fun t : Fin 3 × Fin 2 => Φ (1, t)) := by
  rw [bigSep_univ_prod, bigSep_univ_two]

/-- The destinations of the copies that devices `x 0` and `x 1` start along their directions. -/
def dests (x : Fin 2 → Dev nD) : sProp 𝕄 :=
  iprop((bigSep Finset.univ fun k : T3 => some_ (toDev k.1 (x k.1)) (slotM k.1 k.2.1 k.2.2))
    ∗ bigSep Finset.univ fun k : T3 =>
      some_ (toDev k.1 (x k.1)) (rowsM (own k.1 (up k.1 (k.2.1.val + 1) (toDev k.1 (x k.1)))) k.1 k.2.2))

theorem dests_give (x : Fin 2 → Dev nD) : (dests x : sProp 𝕄) ⊢ iprop(barPay (x 0) 0 ∗ barPay (x 1) 1) := by
  unfold dests barPay
  rw [by_dir, by_dir (fun k : T3 =>
    some_ (toDev k.1 (x k.1)) (rowsM (own k.1 (up k.1 (k.2.1.val + 1) (toDev k.1 (x k.1)))) k.1 k.2.2)), bigSep_sep', bigSep_sep']
  iintro ⟨⟨H₁, H₂⟩, H₃, H₄⟩
  isplitl [H₁ H₃]
  · isplitl [H₁] <;> iassumption
  · isplitl [H₂] <;> iassumption

theorem dests_take (x : Fin 2 → Dev nD) : iprop(barPay (x 0) 0 ∗ barPay (x 1) 1) ⊢ (dests x : sProp 𝕄) := by
  unfold dests barPay
  rw [by_dir, by_dir (fun k : T3 =>
    some_ (toDev k.1 (x k.1)) (rowsM (own k.1 (up k.1 (k.2.1.val + 1) (toDev k.1 (x k.1)))) k.1 k.2.2)), bigSep_sep', bigSep_sep']
  iintro ⟨⟨H₁, H₃⟩, H₂, H₄⟩
  isplitl [H₁ H₂]
  · isplitl [H₁] <;> iassumption
  · isplitl [H₃] <;> iassumption

/-- A device's own slots and later rows are the destinations its two neighbours write. -/
theorem own_dests (c : Dev nD) : iprop((bigSep Finset.univ fun k : T3 => some_ c (slotM k.1 k.2.1 k.2.2))
      ∗ bigSep Finset.univ fun k : T3 => some_ c (rowsM (own k.1 (up k.1 (k.2.1.succ : Fin 4).val c)) k.1 k.2.2))
    ⊢ (dests (fun d => fromDev d c) : sProp 𝕄) := by
  unfold dests
  simp only [toDev_fromDev, Fin.val_succ]
  exact Entails.refl _

/-- The destinations of its own copies. -/
theorem dests_own (c : Dev nD) : (dests (fun _ => c) : sProp 𝕄)
    ⊢ iprop((bigSep Finset.univ fun k : T3 => some_ (toDev k.1 c) (slotM k.1 k.2.1 k.2.2))
      ∗ bigSep Finset.univ fun k : T3 => some_ (toDev k.1 c) (rowsM (own k.1 (up k.1 k.2.1.val c)) k.1 k.2.2)) := by
  unfold dests
  refine Entails.of_eq (congrArg (fun P => iprop(_ ∗ P)) (bigSep_congr fun k _ => ?_))
  rw [up_succ, fromDev_toDev]

/-! ## Entry and exit -/

section Body

variable (A : Dev nD → Vec F S2048x1024 .bf16) (B : Dev nD → Vec F S1024x1024 .bf16)
  (K : Dev nD × Option Ix → ℕ) (c : Dev nD)

/-- A copy's tokens and positions, its send semaphore of kind `s`, its receive semaphore of kind `r`. -/
def copyG (s r : Kind) (k : T3) : sProp 𝕄 :=
  iprop(dutyTok ER (ixCell c (s, k)) 0 0 ∗ dutyTok ER (ixCell (toDev k.1 c) (r, k)) 0 0
    ∗ atPos ER (ixCell c (r, k)) 0 ∅ 0 ∗ cred (tallyAt (ixCell c (r, k)) () N) ∗ atPos ER (ixCell c (s, k)) 0 ∅ 0)

/-- The handshake's. -/
def barG : sProp 𝕄 :=
  iprop(dutyTok ER (barCell (fromDev 0 c)) 0 0 ∗ dutyTok ER (barCell (fromDev 1 c)) 0 1 ∗ atPos ER (barCell c) 0 ∅ 0
    ∗ cred (tallyAt (barCell c) () 2))

/-- Everything the launch deals a device. -/
def ghost : sProp 𝕄 :=
  iprop(barG c ∗ (bigSep Finset.univ fun k => copyG c .rsS .rsR k) ∗ bigSep Finset.univ fun k => copyG c .agS .agR k)

/-- The kernel's scratch buffers at some contents. -/
def scratch : sProp 𝕄 :=
  iprop(((∃ X, ownsTc c (bufM 0) fullShare X) ∗ (∃ X, ownsTc c (bufM 1) fullShare X))
    ∗ (∃ X, ownsTc c wbM fullShare X) ∗ (∃ X, ownsTc c rM fullShare X))

/-- Every semaphore of the exchange at zero. -/
def zeros : sProp 𝕄 :=
  iprop(semVal (barCell c) 0
    ∗ (bigSep Finset.univ fun k : T3 => iprop(semVal (ixCell c (.rsR, k)) 0 ∗ semVal (ixCell c (.rsS, k)) 0))
    ∗ bigSep Finset.univ fun k : T3 => iprop(semVal (ixCell c (.agR, k)) 0 ∗ semVal (ixCell c (.agS, k)) 0))

/-- What a device owes at launch: its copies' credit, and a unit to the barrier of each device that writes to it. -/
def O₀ : CellTallies nD τ sig Unit :=
  (owed c σ₀.todo + tallyAt (barCell (fromDev 1 c)) () 1) + tallyAt (barCell (fromDev 0 c)) () 1

theorem rs_ready : iprop((bigSep Finset.univ fun k => copyG c .rsS .rsR k)
      ∗ bigSep Finset.univ fun k : T3 => some_ (toDev k.1 c) (slotM k.1 k.2.1 k.2.2))
    ⊢ (bigSep Finset.univ fun k => rsC c k 0 : sProp 𝕄) := by
  rw [← bigSep_sep']
  refine bigSep_mono fun k _ => show iprop(copyG c .rsS .rsR k ∗ some_ (toDev k.1 c) (slotM k.1 k.2.1 k.2.2)) ⊢ rsC c k 0 from ?_
  simp only [rsC]
  unfold copyG
  iintro ⟨⟨H₁, H₂, H₃, H₄, H₅⟩, H₆⟩
  iframe

theorem ag_ready : iprop((bigSep Finset.univ fun k => copyG c .agS .agR k)
      ∗ bigSep Finset.univ fun k : T3 => some_ (toDev k.1 c) (rowsM (own k.1 (up k.1 k.2.1.val c)) k.1 k.2.2))
    ⊢ (bigSep Finset.univ fun k => agC c k 0 : sProp 𝕄) := by
  rw [← bigSep_sep']
  refine bigSep_mono fun k _ => show iprop(copyG c .agS .agR k
    ∗ some_ (toDev k.1 c) (rowsM (own k.1 (up k.1 k.2.1.val c)) k.1 k.2.2)) ⊢ agC c k 0 from ?_
  simp only [agC]
  unfold copyG
  iintro ⟨⟨H₁, H₂, H₃, H₄, H₅⟩, H₆⟩
  iframe

theorem first_rows : (bigSep Finset.univ fun k : T4 =>
      if k.2.1 = 0 then some_ c (rowsM (own k.1 (up k.1 k.2.1.val c)) k.1 k.2.2) else iprop(emp) : sProp 𝕄)
    ⊢ (bigSep Finset.univ fun k => rowC A B c k 0 : sProp 𝕄) := by
  refine Entails.of_eq (bigSep_congr fun k _ => ?_)
  simp only [rowC]
  by_cases h : k.2.1 = 0
  · rw [if_pos h, if_pos h, h]; rfl
  · rw [if_neg h, if_neg h]

theorem cells_done : (bigSep Finset.univ fun k => cellC A c k (σ₁.cell k) : sProp 𝕄)
    ⊢ (bigSep Finset.univ fun k : T4 => some_ c (cellM k.1 (snd k.1 c k.2.1) k.2.2)) := by
  refine bigSep_mono fun k _ => show cellC A c k (if k.2.1 = 3 then 2 else 4)
    ⊢ some_ c (cellM k.1 (snd k.1 c k.2.1) k.2.2) from ?_
  split
  · simp only [cellC]
    iintro H; iexists _; iexact H
  · exact Entails.refl _

theorem rs_done : (bigSep Finset.univ fun k => rsC c k (σ₁.rs k) : sProp 𝕄)
    ⊢ iprop((bigSep Finset.univ fun k : T3 => some_ c (slotM k.1 k.2.1 k.2.2))
      ∗ bigSep Finset.univ fun k : T3 => iprop(semVal (ixCell c (.rsR, k)) 0 ∗ semVal (ixCell c (.rsS, k)) 0)) := by
  rw [← bigSep_sep']
  exact bigSep_mono fun k _ => show rsC c k 3 ⊢ iprop(some_ c (slotM k.1 k.2.1 k.2.2)
    ∗ semVal (ixCell c (.rsR, k)) 0 ∗ semVal (ixCell c (.rsS, k)) 0) from Entails.refl _

theorem rows_done [∀ e, Nonempty (Elt F e)] : (bigSep Finset.univ fun k => rowC A B c k (σ₁.row k) : sProp 𝕄)
    ⊢ ownsTc c oM fullShare (outV A B) := by
  have h : (bigSep Finset.univ fun k => rowC A B c k (σ₁.row k) : sProp 𝕄)
      ⊢ (bigSep Finset.univ fun k : T4 => ownsTc c (rowsM (own k.1 (up k.1 k.2.1.val c)) k.1 k.2.2) fullShare
        (prod A B k.1 k.2.2 (up k.1 k.2.1.val c))) := bigSep_mono fun k _ => Entails.refl _
  exact h.trans (rows_join c A B)

/-- The handshake: from the slots and rows of its own to the destinations of its copies. -/
theorem run_bar (k : PUnit → Pr F) (Q : PUnit → sProp 𝕄) :
    iprop(ctx A B K ∗ barG c ∗ (∃ W, owes (c : Thread nD τ) (O₀ c) W) ∗ dests (fun d => fromDev d c))
      ⊢ iprop((semVal (barCell c) 0 ∗ ow c σ₀.todo ∗ dests (fun _ => c) -∗ run c (k ⟨⟩) Q)
        -∗ run c ((opP c .bar).bind k) Q) := by
  simp only [opP, barP, semSignalWord, semWaitWord, Prog.lift, Prog.bind_op, Prog.bind_ret, Prog.pure_eq_ret, bind]
  simp only [dev1_eq c, dev2_eq c]
  unfold barG O₀
  iintro ⟨#Hctx, ⟨Ht₀, Ht₁, Hat, Hc⟩, ⟨%W, Ho⟩, Hd⟩ Hk
  ihave ⟨Hd₀, Hd₁⟩ := (dests_give (F := F) (fun d => fromDev d c)) $$ Hd
  ihave ⟨#Hi₀, #Hr₀⟩ := (ctx_cell A B K (fromDev 0 c, none)) $$ Hctx
  ihave ⟨#Hi₁, #Hr₁⟩ := (ctx_cell A B K (fromDev 1 c, none)) $$ Hctx
  ihave ⟨#Hi, -⟩ := (ctx_cell A B K (c, none)) $$ Hctx
  iapply (Rounds.wp_signal 𝒱₀ ER (ringRd A B) (c : Thread nD τ) none (dst := (fromDev 0 c : Thread nD τ)) (κ := K (fromDev 0 c, none))
    (d := 0) (by rw [duties_bar]; exact Finset.mem_univ _) ((amount_bar A B (fromDev 0 c) 0).trans (by decide)) ()
    (owed c σ₀.todo + tallyAt (barCell (fromDev 1 c)) () 1) rfl) $$ [Ho Ht₀ Hd₀]
  · isplitr; · iexact Hi₀
    isplitl [Ho]; · iexact Ho
    isplitl [Ht₀]; · iexact Ht₀
    isplitl [Hd₀]
    · rw [payload_bar]; iexact Hd₀
    iexact Hr₀
  iintro Ho
  iapply (Rounds.wp_signal 𝒱₀ ER (ringRd A B) (c : Thread nD τ) none (dst := (fromDev 1 c : Thread nD τ)) (κ := K (fromDev 1 c, none))
    (d := 1) (by rw [duties_bar]; exact Finset.mem_univ _) ((amount_bar A B (fromDev 1 c) 1).trans (by decide)) ()
    (owed c σ₀.todo) rfl) $$ [Ho Ht₁ Hd₁]
  · isplitr; · iexact Hi₁
    isplitl [Ho]; · iexact Ho
    isplitl [Ht₁]; · iexact Ht₁
    isplitl [Hd₁]
    · rw [payload_bar]; iexact Hd₁
    iexact Hr₁
  iintro Ho
  iapply (Rounds.wp_wait_rest_token 𝒱₀ ER (ringRd A B) (c : Thread nD τ) none (κ := K (c, none))
    (wpE_semWait_eq 𝒱₀ (c : Thread nD τ) none Set.univ) (Set.mem_univ _) () (O := owed c σ₀.todo) (W := W) (R := 0) (m := 0) (T := ∅)
    (by rw [expect_bar]; decide)) $$ [Hc Ho Hat]
  · isplitr; · iexact Hi
    isplitl [Hc]; · iexact Hc
    isplitl [Ho]; · iexact Ho
    isplitr
    · iapply (mayWait c (.reg barS) σ₀.todo (by rw [lv_bar]; decide))
      iapply (ctx_lev A B K); iexact Hctx
    iexact Hat
  iintro ⟨Ho, Hat, -, Hp⟩
  ihave Hp := (Entails.of_eq (rest_bar A B c)) $$ Hp
  imod (Rounds.cell_close ER (ringRd A B) (Set.mem_univ (K (c, none))) (fun h => h) (R := 0 + 1)
    (duties_later A B (barCell c))) $$ [Hat] with Hz
  · isplitr; · iexact Hi
    iexact Hat
  iapply Hk
  isplitl [Hz]; · iexact Hz
  isplitl [Ho]
  · unfold ow; iexists _; iexact Ho
  iapply (dests_take (F := F) (fun _ => c)); iexact Hp

/-- The whole body: from what the launch deals to the result, the scratch buffers and the semaphores handed back. -/
theorem run_ops [∀ e, Nonempty (Elt F e)] (Q : PUnit → sProp 𝕄) :
    iprop(ctx A B K ∗ ghost c ∗ scratch c ∗ (∃ W, owes (c : Thread nD τ) (O₀ c) W)
        ∗ ownsTc c tM fullShare (A c) ∗ ownsTc c wM fullShare (B c) ∗ ∃ X, ownsTc c oM fullShare X)
      ⊢ iprop((scratch c ∗ zeros c ∗ (∃ W, owes (c : Thread nD τ) 0 W)
          ∗ ownsTc c tM fullShare (A c) ∗ ownsTc c wM fullShare (B c) ∗ ownsTc c oM fullShare (outV A B) -∗ Q ⟨⟩)
        -∗ run c (runOps c ops) Q) := by
  rw [show ops = .bar :: ops.tail from rfl]
  unfold ghost scratch runOps
  iintro ⟨#Hctx, ⟨Hbar, Hrs, Hag⟩, ⟨Hcell, Hwb, Hslot⟩, Ho, Ht, Hw, Hout⟩ Hk
  ihave Hcell := (cells_cut (F := F) c) $$ Hcell
  ihave Hslot := (slots_cut (F := F) c) $$ Hslot
  ihave Hrow := (rows_cut (F := F) c) $$ Hout
  ihave ⟨Hrow, Hlater⟩ := (rows_split (F := F) fun k : T4 => some_ c (rowsM (own k.1 (up k.1 k.2.1.val c)) k.1 k.2.2)) $$ Hrow
  ihave Hrow := (first_rows A B c) $$ Hrow
  ihave Hd := (own_dests (F := F) c) $$ [Hslot Hlater]
  · isplitl [Hslot] <;> iassumption
  iapply (run_bar A B K c) $$ [Hbar Ho Hd]
  · isplitr; · iexact Hctx
    isplitl [Hbar]; · iexact Hbar
    isplitl [Ho] <;> iassumption
  iintro ⟨Hz, Ho, Hd⟩
  ihave ⟨Hd₁, Hd₂⟩ := (dests_own (F := F) c) $$ Hd
  ihave Hrs := (rs_ready (F := F) c) $$ [Hrs Hd₁]
  · isplitl [Hrs] <;> iassumption
  ihave Hag := (ag_ready (F := F) c) $$ [Hag Hd₂]
  · isplitl [Hag] <;> iassumption
  iapply (run_list A B K c Q ops.tail σ₀ (runs_ops c)) $$ [Hcell Hrs Hrow Hag Hw Hwb Ht Ho]
  · isplitr; · iexact Hctx
    unfold holds
    isplitl [Hcell]; · iexact Hcell
    isplitl [Hrs]; · iexact Hrs
    isplitl [Hrow]; · iexact Hrow
    isplitl [Hag]; · iexact Hag
    isplitl [Hw Hwb]
    · rw [show wC B c σ₀.w = iprop(ownsTc c wM fullShare (B c) ∗ ∃ X, ownsTc c wbM fullShare X) from rfl]
      isplitl [Hw] <;> iassumption
    isplitl [Ht] <;> iassumption
  rw [after_ops]
  unfold holds
  iintro ⟨Hcell, Hrs, Hrow, Hag, Hw, Ht, Ho⟩
  ihave Hcell := (cells_done A c) $$ Hcell
  ihave Hcell := (cells_join (F := F) c) $$ Hcell
  ihave ⟨Hslot, Hrs⟩ := (rs_done (F := F) c) $$ Hrs
  ihave Hslot := (slots_join (F := F) c) $$ Hslot
  ihave Hout := (rows_done A B c) $$ Hrow
  ihave ⟨Hw, Hwb⟩ := (Entails.of_eq (show wC B c σ₁.w
    = iprop(ownsTc c wM fullShare (B c) ∗ ownsTc c wbM fullShare (B c)) from rfl)) $$ Hw
  iapply Hk
  isplitl [Hcell Hwb Hslot]
  · isplitl [Hcell]; · iexact Hcell
    isplitl [Hwb]; · iexists _; iexact Hwb
    iexact Hslot
  isplitl [Hz Hrs Hag]
  · unfold zeros
    isplitl [Hz]; · iexact Hz
    isplitl [Hrs]; · iexact Hrs
    iexact Hag
  isplitl [Ho]
  · unfold ow; iexact Ho
  iframe

end Body

end Cert.KernelIdeal.Ring

end
-- ==== Proof.Deal.lean ====
/- What the launch deals the devices.

   Every cell of the exchange gets its invariant, its owner the position at its start, and every duty's token goes to
   the device that pays it: a barrier's to the neighbour that signals, a receive semaphore's to the neighbour that
   sends, a send semaphore's to its own device. -/
module

public import proofs.«01_k».proof.Proof.Body
public import proofs.«01_k».proof.Proof.Gen.KernelIdeal.Frame

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

theorem kcell_dev (p : Dev nD × Option Ix) : (kcell p).1.1 = p.1 := by rcases p with ⟨c, _ | i⟩ <;> rfl
theorem kcell_role (p : Dev nD × Option Ix) : roleOf (kcell p).2 = p.2 := by
  rcases p with ⟨c, _ | i⟩
  · rfl
  · exact roleOf_ix i

theorem kcell_injective : Function.Injective kcell := fun p p' h =>
  Prod.ext (by rw [← kcell_dev p, ← kcell_dev p', h]) (by rw [← kcell_role p, ← kcell_role p', h])

theorem bar_eq_iff {a b : Dev nD} : barCell a = barCell b ↔ a = b :=
  ⟨fun h => congrArg Prod.fst (kcell_injective (a₁ := (a, none)) (a₂ := (b, none)) h), fun h => h ▸ rfl⟩
theorem ix_eq_iff {a b : Dev nD} {i j : Ix} : ixCell a i = ixCell b j ↔ a = b ∧ i = j :=
  ⟨fun h => by
    have e := kcell_injective (a₁ := (a, some i)) (a₂ := (b, some j)) h
    exact ⟨congrArg Prod.fst e, Option.some.inj (congrArg Prod.snd e)⟩, fun ⟨h, h'⟩ => h ▸ h' ▸ rfl⟩
theorem ix_ne_bar (a b : Dev nD) (i : Ix) : ixCell a i ≠ barCell b := fun h => dma_ne_bar _ (congrArg Prod.snd h)

/-- A family over a device's cells: the barrier's, then the copies'. -/
theorem by_cell (Φ : Option Ix → sProp 𝕄) :
    bigSep Finset.univ Φ = iprop(Φ none ∗ bigSep Finset.univ fun i => Φ (some i)) := by
  rw [bigSep_univ_at Φ none, show (Finset.univ.erase none : Finset (Option Ix))
    = Finset.univ.map Function.Embedding.some from by ext o; cases o <;> simp, bigSep_map]
  rfl

/-- A family over the copies' semaphores, by kind. -/
theorem by_kind (Φ : Ix → sProp 𝕄) : bigSep Finset.univ Φ
    = iprop((bigSep Finset.univ fun k : T3 => Φ (.rsS, k)) ∗ (bigSep Finset.univ fun k : T3 => Φ (.rsR, k))
      ∗ (bigSep Finset.univ fun k : T3 => Φ (.agS, k)) ∗ bigSep Finset.univ fun k : T3 => Φ (.agR, k)) := by
  rw [bigSep_univ_prod]
  exact bigSep_univ_eq_bigSepL [Kind.rsS, .rsR, .agS, .agR] (by decide) (by decide) _

/-! ## The launch element -/

/-- A cell's duties, by device: the barrier's two, each copy semaphore's one. -/
def tokOf (p : Dev nD × (Fin 2 ⊕ Ix)) : GSem nD τ sig × ℕ × Fin 2 :=
  p.2.elim (fun d => (barCell p.1, 0, d)) fun i => (ixCell p.1 i, 0, 0)

theorem tokOf_injective : Function.Injective tokOf := by
  rintro ⟨c, d | i⟩ ⟨c', d' | i'⟩ h
  · have h₁ : c = c' := bar_eq_iff.mp (congrArg Prod.fst h)
    have h₂ : d = d' := congrArg (fun x => x.2.2) h
    rw [h₁, h₂]
  · exact absurd (congrArg Prod.fst h).symm (ix_ne_bar _ _ _)
  · exact absurd (congrArg Prod.fst h) (ix_ne_bar _ _ _)
  · obtain ⟨h₁, h₂⟩ := ix_eq_iff.mp (congrArg Prod.fst h)
    exact Prod.ext h₁ (congrArg Sum.inr h₂)

def ringCells : Finset (GSem nD τ sig) := Finset.univ.map ⟨kcell, kcell_injective⟩
def ringToks : Finset (GSem nD τ sig × ℕ × Fin 2) := Finset.univ.map ⟨tokOf, tokOf_injective⟩

def u₀ : UU :=
  (initOf (Pipeline.cells cfgs cellOf_inj) (Pipeline.launchToks cfgs cellOf_inj), initOf ringCells ringToks)

/-- The tokens of a device's own cells. -/
def toks (c : Dev nD) : sProp 𝕄 :=
  iprop((bigSep Finset.univ fun d : Fin 2 => dutyTok ER (barCell c) 0 d)
    ∗ bigSep Finset.univ fun i : Ix => dutyTok ER (ixCell c i) 0 0)

/-- The device that holds the semaphore a copy of `c` pays. -/
def hop : Ix → (Dev nD ≃ Dev nD)
  | (.rsR, d, _) => along d
  | (.agR, d, _) => along d
  | _ => Equiv.refl _

/-- The tokens of the duties a device pays. -/
def paid (c : Dev nD) : sProp 𝕄 :=
  iprop((bigSep Finset.univ fun d : Fin 2 => dutyTok ER (barCell (fromDev d c)) 0 d)
    ∗ bigSep Finset.univ fun i : Ix => dutyTok ER (ixCell (hop i c) i) 0 0)

/-- A family over the devices and more may be dealt out along permutations of the devices. -/
theorem bigSep_move {J : Type} [Fintype J] (e : J → Dev nD ≃ Dev nD) (Φ : Dev nD → J → sProp 𝕄) :
    (bigSep Finset.univ fun c => bigSep Finset.univ fun j => Φ c j)
      = bigSep Finset.univ fun c => bigSep Finset.univ fun j => Φ (e j c) j := by
  rw [BI.bigSep_univ_comm, BI.bigSep_univ_comm fun c j => Φ (e j c) j]
  exact bigSep_congr fun j _ => bigSep_univ_equiv (e j) fun c => Φ c j

theorem toks_around : (bigSep Finset.univ fun c : Dev nD => (toks c : sProp 𝕄)) = bigSep Finset.univ fun c => paid c := by
  unfold toks paid
  rw [bigSep_sep', bigSep_sep',
    bigSep_move (fun d => (along d).symm) fun c d => (dutyTok ER (barCell c) 0 d : sProp 𝕄),
    bigSep_move hop fun c i => (dutyTok ER (ixCell c i) 0 0 : sProp 𝕄)]
  rfl

section Deal

variable (A : Dev nD → Vec F S2048x1024 .bf16) (B : Dev nD → Vec F S1024x1024 .bf16)

/-- What the launch element holds of device `c`. -/
def G (c : Dev nD) : sProp 𝕄 :=
  iprop((bigSep Finset.univ fun o : Option Ix => roundState ER (ringRd A B) (kcell (c, o)) 0)
    ∗ (bigSep Finset.univ fun o : Option Ix => iprop(atPos ER (kcell (c, o)) 0 ∅ 0 ∗ reached ER (kcell (c, o)) 0)) ∗ toks c)

theorem fund_ring : BI.own (ER (initOf ringCells ringToks)) ⊢ (|==> bigSep Finset.univ (G A B) : sProp 𝕄) := by
  have hX (Φ : GSem nD τ sig → sProp 𝕄) : bigSep ringCells Φ
      = bigSep Finset.univ fun c : Dev nD => bigSep Finset.univ fun o : Option Ix => Φ (kcell (c, o)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (ringRd A B) ringCells ringToks) $$ HX with ⟨Hst, Hr, Hat, Htok⟩
  imodintro
  ihave Hst := (Entails.of_eq (hX fun g => roundState ER (ringRd A B) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own semaphores. -/
abbrev osem (i : Ix) : SemLoc sig := .dma (ixSem i)

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The exchange's semaphores are the kernel's own and the runtime's barrier. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun o : Option Ix => semVal (kcell (c, o)) 0 : sProp 𝕄) := by
  rw [unscopedSems0_eq, by_cell]
  iintro ⟨H, Hb⟩
  isplitl [Hb]; · iexact Hb
  unfold Pipeline.ownSems0; iexact H

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun o => iprop(∃ κ : ℕ, cellInv ER (ringRd A B) κ (kcell (c, o))))
          ∗ (bigSep Finset.univ fun o => iprop(atPos ER (kcell (c, o)) 0 ∅ 0 ∗ reached ER (kcell (c, o)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun o : Option Ix => semVal (kcell (c, o)) 0)
        ∗ bigSep Finset.univ fun o : Option Ix => roundState ER (ringRd A B) (kcell (c, o)) 0)
      ⊢ (|={Set.univ}=> bigSep Finset.univ fun o => iprop(∃ κ : ℕ, cellInv ER (ringRd A B) κ (kcell (c, o))) : sProp 𝕄) from by
        rw [← bigSep_sep']
        exact (bigSep_mono fun o _ => (Rounds.body_intro ER (ringRd A B) (kcell (c, o))).trans inv_alloc).trans (bigSep_fupd _ _))
    $$ [Hv Hst] with Hinv
  · isplitl [Hv] <;> iassumption
  imodintro
  isplitl [Hinv]; · iexact Hinv
  isplitl [Hat] <;> iassumption

/-- The invariants of all cells. -/
def recs (K : Dev nD × Option Ix → ℕ) : sProp 𝕄 :=
  bigSep Finset.univ fun p => iprop(cellInv ER (ringRd A B) (K p) (kcell p) ∗ reached ER (kcell p) 0)

instance recs_persistent (K : Dev nD × Option Ix → ℕ) : BI.Persistent (recs A B K) := by unfold recs; infer_instance

/-- What stays with a device: its positions and the tokens of the duties it pays. -/
def dealt (c : Dev nD) : sProp 𝕄 :=
  iprop((bigSep Finset.univ fun o : Option Ix => atPos ER (kcell (c, o)) 0 ∅ 0) ∗ paid c)

def G' (c : Dev nD) : sProp 𝕄 := iprop(∃ K, recs A B K ∗ dealt c)

theorem regroup :
    (bigSep Finset.univ fun c : Dev nD => iprop((bigSep Finset.univ fun o => iprop(∃ κ : ℕ, cellInv ER (ringRd A B) κ (kcell (c, o))))
          ∗ (bigSep Finset.univ fun o => iprop(atPos ER (kcell (c, o)) 0 ∅ 0 ∗ reached ER (kcell (c, o)) 0)) ∗ toks c) : sProp 𝕄)
      ⊢ bigSep Finset.univ (G' A B) := by
  rw [bigSep_sep', bigSep_sep', ← bigSep_univ_prod (fun p : Dev nD × Option Ix => iprop(∃ κ : ℕ, cellInv ER (ringRd A B) κ (kcell p))),
    bigSep_congr (s := Finset.univ) (fun (c : Dev nD) _ => bigSep_sep' Finset.univ
      (fun o : Option Ix => (atPos ER (kcell (c, o)) 0 ∅ 0 : sProp 𝕄)) (fun o => reached ER (kcell (c, o)) 0)),
    bigSep_sep', ← bigSep_univ_prod (fun p : Dev nD × Option Ix => (reached ER (kcell p) 0 : sProp 𝕄)), toks_around]
  iintro ⟨HI, ⟨Hat, #HR⟩, Htok⟩
  ihave ⟨%K, #HI⟩ := (BI.bigSep_exists_pi Finset.univ
    (fun (p : Dev nD × Option Ix) (κ : ℕ) => (cellInv ER (ringRd A B) κ (kcell p) : sProp 𝕄))) $$ HI
  have h (c : Dev nD) : iprop(recs A B K ∗ dealt c) ⊢ G' A B c := by
    unfold G'; iintro H; iexists K; iexact H
  iapply (bigSep_with_persistent (R := recs A B K) (Φ := dealt) fun c _ => h c)
  isplitr
  · unfold recs; rw [bigSep_sep']
    isplitl
    · iexact HI
    · iexact HR
  · unfold dealt; rw [bigSep_sep']
    isplitl [Hat] <;> iassumption

theorem glob : (bigSep Finset.univ fun c => iprop(Pipeline.ownSems0 (Ix := Unit) (Name := ℕ) (U := UU) (Lvl := ℕ) (Val := Elt F) (τ := τ) osem c
      ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end Deal

/-! ## The launch's credit -/

theorem owed_ix (c c' : Dev nD) (i : Ix) : ∀ l : List Send,
    owed c l (ixCell c' i) () = N * l.countP fun x => decide (toDev x.d c = c' ∧ x.rcv = i)
  | [] => rfl
  | x :: l => by
    unfold owed
    rw [Pi.add_apply, Finsupp.add_apply, owed_ix c c' i l, tallyAt_apply, List.countP_cons, Nat.mul_add]
    congr 1
    by_cases h : toDev x.d c = c' ∧ x.rcv = i
    · rw [if_pos ⟨ix_eq_iff.mpr ⟨h.1.symm, h.2.symm⟩, rfl⟩, if_pos (decide_eq_true h), Nat.mul_one]
    · rw [if_neg fun e => h ⟨(ix_eq_iff.mp e.1).1.symm, (ix_eq_iff.mp e.1).2.symm⟩, if_neg (by simpa using h), Nat.mul_zero]

theorem owed_bar (c c' : Dev nD) (l : List Send) : owed c l (barCell c') () = 0 := by
  by_contra h
  obtain ⟨x, -, e⟩ := owed_pos c (Nat.pos_of_ne_zero h)
  exact ix_ne_bar _ _ _ e.symm

theorem O₀_ix (d c : Dev nD) (i : Ix) : O₀ d (ixCell c i) () = owed d σ₀.todo (ixCell c i) () := by
  unfold O₀
  rw [Pi.add_apply, Finsupp.add_apply, Pi.add_apply, Finsupp.add_apply, tallyAt_ne_cell (ix_ne_bar _ _ _),
    tallyAt_ne_cell (ix_ne_bar _ _ _), Finsupp.zero_apply, Nat.add_zero, Nat.add_zero]

theorem O₀_bar (d c : Dev nD) : O₀ d (barCell c) () = (if c = fromDev 1 d then 1 else 0) + if c = fromDev 0 d then 1 else 0 := by
  unfold O₀
  rw [Pi.add_apply, Finsupp.add_apply, Pi.add_apply, Finsupp.add_apply, owed_bar, tallyAt_apply, tallyAt_apply, Nat.zero_add]
  simp only [bar_eq_iff, and_true]

/-- Every receive semaphore is owed one copy's credit, every barrier two units. -/
theorem one_copy : ∀ (c : Dev nD) (k : T3) (g : Bool), ∑ d : Dev nD,
    σ₀.todo.countP (fun x => decide (toDev x.d d = c ∧ x.rcv = ((if g then .agR else .rsR, k) : Ix))) = 1 := by
  decide +kernel
theorem two_units : ∀ c : Dev nD, ∑ d : Dev nD, ((if c = fromDev 1 d then 1 else 0) + if c = fromDev 0 d then 1 else 0) = 2 := by
  decide +kernel

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, two_units]

theorem launch_ix (c : Dev nD) (k : T3) (g : Bool) :
    tallyOn (ixCell c (if g then .agR else .rsR, k)) (launchCredit (Pipeline.owing O₀) 0 (ixCell c (if g then .agR else .rsR, k)))
      = (tallyAt (ixCell c (if g then .agR else .rsR, k)) () N : CellTallies nD τ sig Unit) := by
  unfold tallyAt; refine congrArg _ (Finsupp.ext fun u => ?_); cases u
  rw [Pipeline.launchCredit_owing, Finsupp.single_eq_same,
    Finset.sum_congr rfl fun d _ => (O₀_ix d c _).trans (owed_ix d c _ _), ← Finset.mul_sum, one_copy, Nat.mul_one]

/-- A device's credit tokens. -/
def creds (c : Dev nD) : sProp 𝕄 :=
  iprop(cred (tallyAt (barCell c) () 2) ∗ (bigSep Finset.univ fun k : T3 => cred (tallyAt (ixCell c (.rsR, k)) () N))
    ∗ bigSep Finset.univ fun k : T3 => cred (tallyAt (ixCell c (.agR, k)) () N))

theorem creds_intro (c : Dev nD) : (Pipeline.launchCred O₀ c : sProp 𝕄) ⊢ creds c := by
  have hinj : Function.Injective fun o : Option Ix => (kcell (c, o)).2 := fun o o' h =>
    (kcell_role (c, o)).symm.trans ((congrArg roleOf h).trans (kcell_role (c, o')))
  have h₁ : (Pipeline.launchCred O₀ c : sProp 𝕄) ⊢ bigSep (Finset.univ.map ⟨_, hinj⟩) fun sm : SemLoc sig =>
      cred (tallyOn ((c : Thread nD τ), sm) (launchCredit (Pipeline.owing O₀) 0 ((c : Thread nD τ), sm))) :=
    bigSep_subset (Finset.subset_univ _)
  refine h₁.trans ?_
  rw [bigSep_map, by_cell, by_kind]
  show iprop(cred (tallyOn (barCell c) (launchCredit (Pipeline.owing O₀) 0 (barCell c)))
      ∗ _ ∗ (bigSep Finset.univ fun k : T3 =>
        cred (tallyOn (ixCell c (if false then .agR else .rsR, k)) (launchCredit (Pipeline.owing O₀) 0 (ixCell c (if false then .agR else .rsR, k)))))
      ∗ _ ∗ (bigSep Finset.univ fun k : T3 =>
        cred (tallyOn (ixCell c (if true then .agR else .rsR, k)) (launchCredit (Pipeline.owing O₀) 0 (ixCell c (if true then .agR else .rsR, k)))))) ⊢ creds c
  rw [launch_bar, bigSep_congr fun k _ => congrArg cred (launch_ix c k false), bigSep_congr fun k _ => congrArg cred (launch_ix c k true)]
  unfold creds
  iintro ⟨H₁, -, H₂, -, H₃⟩
  isplitl [H₁]; · iexact H₁
  isplitl [H₂]; · iexact H₂
  iexact H₃

/-- What is dealt and the credit are all a device needs. -/
theorem ghost_intro (c : Dev nD) : iprop(dealt c ∗ creds c) ⊢ (ghost c : sProp 𝕄) := by
  unfold dealt paid creds ghost barG copyG
  rw [by_cell, by_kind, by_kind, bigSep_univ_two]
  simp only [bigSep_sep']
  iintro ⟨⟨⟨HaB, HaS, HaR, HaS', HaR'⟩, ⟨Ht₀, Ht₁⟩, HtS, HtR, HtS', HtR'⟩, HcB, HcR, HcR'⟩
  isplitl [Ht₀ Ht₁ HaB HcB]
  · isplitl [Ht₀]; · iexact Ht₀
    isplitl [Ht₁]; · iexact Ht₁
    isplitl [HaB]; · iexact HaB
    iexact HcB
  isplitl [HtS HtR HaR HcR HaS]
  · isplitl [HtS]; · iexact HtS
    isplitl [HtR]; · iexact HtR
    isplitl [HaR]; · iexact HaR
    isplitl [HcR]; · iexact HcR
    iexact HaS
  · isplitl [HtS']; · iexact HtS'
    isplitl [HtR']; · iexact HtR'
    isplitl [HaR']; · iexact HaR'
    isplitl [HcR']; · iexact HcR'
    iexact HaS'

end Cert.KernelIdeal.Ring

end
-- ==== Proof.Run.lean ====
/- The run of the whole program: its one call's body on four devices, launched together. -/
module

public import proofs.«01_k».proof.Proof.Deal
public import Idealize.ShloMosaic.Lib.Pipeline.CollectiveSegs

@[expose] public section

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The devices' blocks of `t` and their weights. -/
def argT (c : Dev nD) : Vec F S2048x1024 .bf16 := iblk m c 0 t0_0
def argW (c : Dev nD) : Vec F S1024x1024 .bf16 := iblk m c 1 t0_0

/-- What a device's body starts from and what it leaves. -/
def Φ₀ (c : Dev nD) : sProp 𝕄 := iprop((∃ K, ctx (argT m) (argW m) K ∗ ghost c) ∗ scratch c)
def Φ₁ (c : Dev nD) : sProp 𝕄 := iprop(scratch c ∗ zeros c)

def dats (_ : Fin 1) (c : Dev nD) : Dat τ (Elt F) Unit ℕ UU ℕ cfg0 c where
  A w := m ((cfg0.win w).arr.view.loc (c : Thread nD τ))
  after w _ := match w with
    | ⟨0, _⟩ => argT m c
    | ⟨1, _⟩ => argW m c
    | ⟨2, _⟩ => outV (argT m) (argW m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem windows (Φ : Fin cfg0.W → sProp 𝕄) :
    bigSep Finset.univ Φ = iprop(Φ (0 : Fin 3) ∗ Φ (1 : Fin 3) ∗ Φ (2 : Fin 3)) := bigSep_W0 Φ

/-! ## The body -/

def bodyPre (c : Dev nD) : sProp 𝕄 :=
  iprop(Φ₀ m c ∗ (dats m 0 c).owesAt () t0_0.castSucc
    ∗ (∃ d, ownsTc c tM fullShare ((dats m 0 c).before (0 : Fin 3) t0_0 d))
    ∗ (∃ d, ownsTc c wM fullShare ((dats m 0 c).before (1 : Fin 3) t0_0 d))
    ∗ (∃ d, ownsTc c oM fullShare ((dats m 0 c).before (2 : Fin 3) t0_0 d)))

def bodyPost (c : Dev nD) : sProp 𝕄 :=
  iprop(Φ₁ c ∗ (dats m 0 c).owesAt () t0_0.succ ∗ ownsTc c tM fullShare (argT m c) ∗ ownsTc c wM fullShare (argW m c)
    ∗ ownsTc c oM fullShare (outV (argT m) (argW m)))

theorem before_t (c : Dev nD) (d) : (dats m 0 c).before (0 : Fin 3) t0_0 d = argT m c := by
  unfold Dat.before; rw [if_pos (fetch0_0 t0_0)]; rfl
theorem before_w (c : Dev nD) (d) : (dats m 0 c).before (1 : Fin 3) t0_0 d = argW m c := by
  unfold Dat.before; rw [if_pos (fetch0_1 t0_0)]; rfl

theorem sound_body (c : Dev nD) :
    bodyPre m c ⊢ run c (cc0_body tM (Memref.isWhole_whole _) wM (Memref.isWhole_whole _) oM
      (Memref.isWhole_whole _) (bufM 0) (bufM_whole 0) (bufM 1) (bufM_whole 1) wbM (Memref.isWhole_whole _)
      rM (Memref.isWhole_whole _) cc0_scratch4 cc0_scratch5 cc0_scratch6 cc0_scratch7) (fun _ => bodyPost m c) := by
  rw [cc0_body_eq_skeleton, body_eq]
  show bodyPre m c ⊢ run c (.op .deviceId fun c => runOps c ops) (fun _ => bodyPost m c)
  unfold run; rw [wp_deviceId]
  unfold bodyPre Φ₀ Dat.owesAt Pipeline.owesWithin
  iintro ⟨⟨⟨%K, #Hctx, Hg⟩, Hs⟩, ⟨%W, %hW, Ho⟩, ⟨%d₀, Ht⟩, ⟨%d₁, Hw⟩, ⟨%d₂, Hout⟩⟩
  rw [before_t, before_w]
  rw [show (dats m 0 c).owed t0_0.castSucc = O₀ c from rfl]
  iapply (run_ops (argT m) (argW m) K c fun _ => bodyPost m c) $$ [Hg Hs Ho Ht Hw Hout]
  · isplitr; · iexact Hctx
    isplitl [Hg]; · iexact Hg
    isplitl [Hs]; · iexact Hs
    isplitl [Ho]; · iexists W; iexact Ho
    isplitl [Ht]; · iexact Ht
    isplitl [Hw]; · iexact Hw
    iexists _; iexact Hout
  unfold bodyPost Φ₁ Dat.owesAt Pipeline.owesWithin
  rw [show (dats m 0 c).owed t0_0.succ = 0 from rfl]
  iintro ⟨Hs, Hz, ⟨%W', Ho⟩, Ht, Hw, Hout⟩
  isplitl [Hs Hz]
  · isplitl [Hs] <;> iassumption
  isplitl [Ho]
  · iexists W'; isplitr
    · ipureintro; exact fun _ _ => Or.inl trivial
    iexact Ho
  isplitl [Ht]; · iexact Ht
  isplitl [Hw] <;> iassumption

set_option maxRecDepth 16384 in
/-- The library's body obligation. -/
theorem body_obligation (c : Dev nD) : BodyObligation (dats (F := F) m 0 c) (defs₀ (F := F)) 𝒱₀ () Set.univ := fun t => by
  rw [fin_N0 t]
  rw [windows, windows]
  exact sound_body m c

/-! ## The launch's side conditions -/

set_option maxRecDepth 16384 in
theorem ownSemFacts : Pipeline.OwnSemFacts cfg0.spec osem := by decide +kernel

theorem share_eq (c : Dev nD) (w : Fin cfg0.W) : (dats m 0 c).share w = fullShare := by unfold Dat.share; split <;> rfl

/-- What a device starts from, its scratch buffers aside. -/
def start (c : Dev nD) : sProp 𝕄 := iprop(∃ K, ctx (argT m) (argW m) K ∗ ghost c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argT m) (argW m) c)
      ⊢ |={Set.univ}=> iprop(start m c ∗ emp) := by
  unfold G' recs
  iintro ⟨-, Hlev, Hcr, -, ⟨%K, Hrec, Hd⟩⟩
  ihave Hc := (creds_intro (F := F) c) $$ Hcr
  imodintro
  isplitl
  · unfold start ctx
    iexists K
    isplitl [Hlev Hrec]
    · isplitl [Hlev] <;> iassumption
    iapply (ghost_intro (F := F) c)
    isplitl [Hd] <;> iassumption
  · iempintro

/-- The scratch buffers, as the launch holds them. -/
theorem scratch_eq (c : Dev nD) : (Pipeline.scopedRest (Ix := Unit) (Name := ℕ) (U := UU) (Lvl := ℕ) (Val := Elt F) spec0 c : sProp 𝕄)
    ⊣⊢ scratch c := by
  rw [scopedRest0_eq]
  unfold scratch ownsTc
  simp only [owns_whole]
  isplit
  · iintro ⟨H₀, H₁, H₂, H₃⟩
    isplitl [H₀ H₁]
    · isplitl [H₀] <;> iassumption
    isplitl [H₂] <;> iassumption
  · iintro ⟨⟨H₀, H₁⟩, H₂, H₃⟩
    isplitl [H₀]; · iexact H₀
    isplitl [H₁]; · iexact H₁
    isplitl [H₂] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · unfold start; iexact Hs
  iapply (scratch_eq (F := F) c).1; iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, unscopedSems0_eq]
  unfold Φ₁ zeros Pipeline.ownSems0
  rw [by_kind]
  simp only [bigSep_sep']
  iintro ⟨Hs, Hb, ⟨HrR, HrS⟩, HaR, HaS⟩
  isplitl [Hb]; · iexact Hb
  isplitl [HrR HrS HaR HaS]
  · isplitl [HrS]; · iexact HrS
    isplitl [HrR]; · iexact HrR
    isplitl [HaS]; · iexact HaS
    iexact HaR
  iapply (scratch_eq (F := F) c).2; iexact Hs

/-- What is owed at launch is above level `0`. -/
theorem owed_above (c : Dev nD) (l : List Send) {g : GSem nD τ sig} {u : Unit}
    (h : 0 < ((owed c l + tallyAt (barCell (fromDev 1 c)) () 1) + tallyAt (barCell (fromDev 0 c)) () 1 : CellTallies nD τ sig Unit) g u) :
    L g = {()} ∧ 0 < lv g u := by
  rw [Pi.add_apply, Finsupp.add_apply, Pi.add_apply, Finsupp.add_apply, tallyAt_apply, tallyAt_apply] at h
  have hb (d : Fin 2) (e : g = barCell (fromDev d c) ∧ u = ()) : L g = {()} ∧ 0 < lv g u := by
    rw [e.1, L_tc, lv_bar]; exact ⟨rfl, Nat.one_pos⟩
  by_cases h₁ : g = barCell (fromDev 1 c) ∧ u = ()
  · exact hb 1 h₁
  by_cases h₀ : g = barCell (fromDev 0 c) ∧ u = ()
  · exact hb 0 h₀
  rw [if_neg h₁, if_neg h₀, Nat.add_zero] at h
  obtain ⟨x, -, rfl⟩ := owed_pos c h
  refine ⟨L_tc _ _, ?_⟩
  rw [show u = () from rfl, lv_ix]
  obtain ⟨g, s, j, d⟩ := x
  cases g
  · exact Nat.lt_of_lt_of_le (by decide) (Nat.le_add_right 2 s.val)
  · exact Nat.lt_of_lt_of_le (by decide) (Nat.le_add_right 5 s.val)

theorem O₀_pos (c : Dev nD) {g : GSem nD τ sig} {u : Unit} (h : 0 < O₀ c g u) : L g = {()} ∧ 0 < lv g u :=
  owed_above c σ₀.todo h

theorem mayWait_stage (c : Dev nD) (q : DmaSem sig) (hq : roleOf (.dma q) = none) (O : CellTallies nD τ sig Unit)
    (hO : O = O₀ c ∨ O = 0) : (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by rw [(O₀_pos c hg).1]; exact Finset.mem_singleton_self _)
      (fun p hp => by
        rw [Finset.mem_singleton.mp hp]
        unfold lv; rw [if_neg (dma_ne_bar q), hq]; rfl)
      (fun g u hg => (O₀_pos c hg).2)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def Done : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every semaphore at zero, every fair execution ends, each array holding what the body leaves in
    it, and every semaphore at zero again. -/
theorem run_main : θ_run defs (onTc (τ := τ) (main (F := F))) ⟨m, fun _ => 0, ρ⟩ (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (argT m) (argW m)) (G' := G' (argT m) (argW m)) (u₀ := u₀)
    (hu₀ := by
      unfold u₀
      iintro Hu
      ihave ⟨HP, HX⟩ := (ownU_pair _ _) $$ Hu
      imod (fund_ring (argT m) (argW m)) $$ HX with HG
      imodintro
      isplitl [HP] <;> iassumption)
    (hglob := glob (argT m) (argW m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they were. -/
theorem finalA_t (c : Dev nD) : finalA m c (0 : Fin 3) = m ((c : Thread nD τ).loc main_arg0) :=
  (dats m 0 c).arrAt_in (0 : Fin 3) rfl _
theorem finalA_w (c : Dev nD) : finalA m c (1 : Fin 3) = m ((c : Thread nD τ).loc main_arg1) :=
  (dats m 0 c).arrAt_in (1 : Fin 3) rfl _

end Cert.KernelIdeal.Ring

end
-- ==== Proof.RefValue.lean ====
/- The reference's result over the extended reals, read at an index: the four blocks' rows summed, times the weights. -/
module

public import proofs.«01_k».proof.Proof.Gen.ReferenceIdeal.Run
public import Idealize.ShloMosaic.Lib.Pointwise

@[expose] public section

noncomputable section

namespace Cert.ReferenceIdeal.Ring

open Cert.ReferenceIdeal Cert.ReferenceIdeal.Gen Idealize.ShloMosaic

/-- Row `r` of block `e` of the whole array. -/
def rowOf (e : Fin 4) (r : Fin 2048) : Fin 8192 := ⟨e.val * 2048 + r.val, by omega⟩

/-- The sum over the blocks, and its product with the weights. -/
def total (T : Vec Ideal S8192x1024 .bf16) (W : Vec Ideal S1024x1024 .bf16) : Vec Ideal S2048x1024 .bf16 := fun i =>
  ∑ k : Fin 1024, (∑ e : Fin 4, T (ix2 (rowOf e (i 0)) k)) * W (ix2 k (i 1))

/-- The term the reference's operations compose to is that. -/
theorem composed_eq (T : Vec Ideal S8192x1024 .bf16) (W : Vec Ideal S1024x1024 .bf16) :
    truncf .bf16 (Host.dotGeneral (F := Ideal) (φ₁ := .bf16) (φ₂ := .bf16) dot_S2048x1024_S1024x1024_S2048x1024_1_0_0_1_n_n none (truncf .bf16 (Host.reduceAdd (shapeCast _ (extf (F := Ideal) (φ := .bf16) .f32 T bitsLt_bf16_f32) shapeCasts_S8192x1024_S4x2048x1024) (constant S_ .f32 0x00000000#32) reducesTo_S4x2048x1024_S2048x1024_d0 h_S_) bitsLt_bf16_f32) W) bitsLt_bf16_f32
      = total T W := by
  funext i
  pointwise [total, rowOf]

end Cert.ReferenceIdeal.Ring

end
-- ==== Proof.Value.lean ====
/- The kernel's result over the extended reals: on every device, the product of the summed blocks and the weights. -/
module

public import proofs.«01_k».proof.Proof.Run
public import proofs.«01_k».proof.Proof.RefValue
public import Idealize.ShloMosaic.Lib.Pointwise

@[expose] public section

noncomputable section

namespace Cert.KernelIdeal.Ring

open Cert.KernelIdeal.Gen Cert.ReferenceIdeal.Ring
open Idealize.ShloMosaic Idealize.ShloMosaic.TcCoe

/-! ## The arrays at the end of the run -/

section Arrays

variable {F : FTy → Type} [FloatOps F] (m : (ℓ : Loc nD τ sig) → Buf (Elt F) ℓ)

/-- Each operand's one block is its whole array. -/
theorem argT_eq (c : Dev nD) : argT m c = m ((c : Thread nD τ).loc main_arg0) := by
  show (win0_0.blk (0 : Fin 1)).view.read (Elt F) (m ((c : Thread nD τ).loc main_arg0)) = _
  exact Memref.read_access_unit_zero (Elt F) main_arg0
    (funext fun a => show win0_0.index (0 : Fin 1) a * main_arg0.ty.shape.size a = 0 by fin_cases a <;> decide)
    (fun a => by fin_cases a <;> decide) (m ((c : Thread nD τ).loc main_arg0))
/-- The same of the weights. -/
theorem argW_eq (c : Dev nD) : argW m c = m ((c : Thread nD τ).loc main_arg1) := by
  show (win0_1.blk (0 : Fin 1)).view.read (Elt F) (m ((c : Thread nD τ).loc main_arg1)) = _
  exact Memref.read_access_unit_zero (Elt F) main_arg1
    (funext fun a => show win0_1.index (0 : Fin 1) a * main_arg1.ty.shape.size a = 0 by fin_cases a <;> decide)
    (fun a => by fin_cases a <;> decide) (m ((c : Thread nD τ).loc main_arg1))

/-- The result array holds what the body left in its staging buffer. -/
theorem finalA_o (c : Dev nD) : finalA m c (2 : Fin 3) = outV (argT m) (argW m) := by
  have h : (win0_2.blk (0 : Fin 1)).view.read (Elt F) (finalA m c (2 : Fin 3)) = outV (argT m) (argW m) := by
    have e := (dats m 0 c).arrAt_succ (2 : Fin 3) (0 : Fin 1)
    rw [if_pos (show (cfg0.win (2 : Fin 3)).flush (0 : Fin 1) = true by decide)] at e
    exact (congrArg _ e).trans (View.read_write_univ _ _)
  refine Eq.trans (Eq.symm ?_) h
  exact Memref.read_access_unit_zero (Elt F) main_v1
    (funext fun a => show win0_2.index (0 : Fin 1) a * main_v1.ty.shape.size a = 0 by fin_cases a <;> decide)
    (fun a => by fin_cases a <;> decide) _

end Arrays

/-! ## The partial sums add up -/

/-- The device and its three predecessors along a direction are all the devices. -/
theorem up_bijective : ∀ (d : Fin 2) (c : Dev nD), Function.Bijective fun s : Fin 4 => up d s.val c := by decide +kernel

/-- The chunk a partial sum is about does not change along the ring. -/
theorem snd_up : ∀ (d : Fin 2) (c : Dev nD), snd d (up d 1 c) 2 = own d c ∧ snd d (up d 2 c) 1 = own d c
    ∧ snd d (up d 3 c) 0 = own d c := by decide +kernel

variable (A : Dev nD → Vec Ideal S2048x1024 .bf16) (B : Dev nD → Vec Ideal S1024x1024 .bf16)

/-- After three steps a device holds the sum, over all devices, of its chunk. -/
theorem acc_total (d j : Fin 2) (c : Dev nD) (i : S128x1024.Idx) :
    acc A d j 3 c i = ∑ e : Dev nD, A e ((tRect (own d c) d j).emb i) := by
  obtain ⟨h1, h2, h3⟩ := snd_up d c
  have hs : ∑ e : Dev nD, A e ((tRect (own d c) d j).emb i)
      = ∑ s : Fin 4, A (up d s.val c) ((tRect (own d c) d j).emb i) :=
    ((up_bijective d c).sum_comp fun e => A e ((tRect (own d c) d j).emb i)).symm
  rw [hs, Fin.sum_univ_four, add_assoc, add_assoc]
  show slab A c d (own d c) j i + (slab A (up d 1 c) d (snd d (up d 1 c) 2) j i + (slab A (up d 2 c) d (snd d (up d 2 c) 1) j i
    + slab A (up d 3 c) d (snd d (up d 3 c) 0) j i)) = _
  rw [h1, h2, h3]
  rfl

/-- A device's product at an index, as a sum. -/
theorem prod_apply (d j : Fin 2) (c : Dev nD) (i : S128x1024.Idx) :
    prod A B d j c i = ∑ k : Fin 1024, acc A d j 3 c (ix2 (i 0) k) * B c (ix2 k (i 1)) := by
  pointwise [prod, k0_pay29]

/-- Every device ends with the reference's result of the whole array, of which it had one block. -/
theorem outV_total (T : Vec Ideal Cert.ReferenceIdeal.S8192x1024 .bf16) (W : Vec Ideal S1024x1024 .bf16)
    (hA : ∀ c, A c = Layout.block ⟨2, ![2048, 1024]⟩ ⟨2, ![8192, 1024]⟩ 0 4 c T) (hB : ∀ c, B c = W) :
    outV A B = total T W := by
  funext i
  obtain ⟨x, -, hx⟩ := Finset.mem_map.mp (show i ∈ Finset.univ.map (rowRect (blockOf i)).emb by
    rw [Rect.map_emb_univ]; exact mem_blockOf i)
  generalize blockOf i = t at x hx
  subst hx
  rw [congrFun (outV_emb A B t) x, prod_apply]
  refine Finset.sum_congr rfl fun k _ => ?_
  rw [acc_total, own_ownerOf, hB]
  have h1 : x 1 = (rowRect t).emb x 1 := Fin.ext (by show (x 1).val = 0 + 1 * (x 1).val; omega)
  rw [← h1]
  refine congrArg (· * W (ix2 k (x 1))) (Finset.sum_congr rfl fun e _ => ?_)
  rw [hA, Layout.block_apply]
  refine congrArg T (funext fun a => Fin.ext ?_)
  rw [Layout.Tiles.idx_val]
  fin_cases a
  · rfl
  · show 0 + 1 * k.val = k.val; omega

end Cert.KernelIdeal.Ring

end
-- ==== Proof.lean ====
/- The claims, from the runs: each kernel's frame from its run, the reference's from its own, and the value from both. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel ends, its arguments unchanged and every semaphore at zero. -/
theorem kernel_frame : Cert.quiescent_Kernel (hKernel := Cert.Kernel.Gen.facts) := fun m g _ =>
  (θ_run _ _ _).mono (fun _ h => ⟨fun c => ⟨(h.1 c (0 : Fin 3)).trans (Cert.Kernel.Ring.finalA_t m c),
    (h.1 c (1 : Fin 3)).trans (Cert.Kernel.Ring.finalA_w m c)⟩, h.2⟩) (Cert.Kernel.Ring.run_main m g)

/-- So does the kernel over the extended reals. -/
theorem ideal_frame : Cert.quiescent_KernelIdeal (hKernelIdeal := Cert.KernelIdeal.Gen.facts) := fun m g _ =>
  (θ_run _ _ _).mono (fun _ h => ⟨fun c => ⟨(h.1 c (0 : Fin 3)).trans (Cert.KernelIdeal.Ring.finalA_t m c),
    (h.1 c (1 : Fin 3)).trans (Cert.KernelIdeal.Ring.finalA_w m c)⟩, h.2⟩) (Cert.KernelIdeal.Ring.run_main m g)

/-- The reference has no semaphore. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Every device ends with the reference's result. -/
theorem same_value : Cert.algebraic_KernelIdeal_ReferenceIdeal (hKernelIdeal := Cert.KernelIdeal.Gen.facts)
    (hReferenceIdeal := Cert.ReferenceIdeal.Gen.facts) := fun m g m' g' _ hm =>
  ⟨Cert.ReferenceIdeal.Ring.total (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c (2 : Fin 3)).trans ((Cert.KernelIdeal.Ring.finalA_o m c).trans
        (Cert.KernelIdeal.Ring.outV_total _ _ _ _ (fun e => (Cert.KernelIdeal.Ring.argT_eq m e).trans (hm e).1)
          fun e => (Cert.KernelIdeal.Ring.argW_eq m e).trans (hm e).2)),
      (h.1 c (0 : Fin 3)).trans (Cert.KernelIdeal.Ring.finalA_t m c),
      (h.1 c (1 : Fin 3)).trans (Cert.KernelIdeal.Ring.finalA_w m c)⟩) (Cert.KernelIdeal.Ring.run_main m g),
    (θ_run _ _ _).mono (fun _ h => ⟨(h 0).1.trans (Cert.ReferenceIdeal.Ring.composed_eq _ _), (h 0).2⟩)
      (Cert.ReferenceIdeal.Value.run m' g')⟩

theorem claim : Cert.Claim := ⟨Cert.Kernel.Gen.facts, Cert.KernelIdeal.Gen.facts, Cert.ReferenceIdeal.Gen.facts,
  kernel_frame, ideal_frame, reference_frame, trivial, same_value⟩

end Cert.Proof

end
